-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x20 : Shape := ⟨2, ![1024, 20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S100000x64 .f32) (main_arg2 : FVec F S1280x128 .f32) (main_arg3 : FVec F S128 .f32) (main_arg4 : FVec F S128x100000 .f32) (main_arg5 : FVec F S100000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Pre_in_range_finite.lean ====
abbrev S1024x20 : Shape := ⟨2, ![1024, 20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1280x128 : S_.BroadcastsInDim S1280x128 (![] : Fin 0 → Fin S1280x128.rank)
  reducesTo_S1280x128_S_d0_1 : S1280x128.ReducesTo [0, 1] S_
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg4 : FVec F S128x100000 .f32) (main_arg5 : FVec F S100000 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x100000 .f32 := Host.absf main_arg4
  let main_cst_7 : FVec F S_ .f32 := constant S_ .f32 0x7F800000#32
  let main_v22 : FVec F S128x100000 .f32 := broadcastInDim S128x100000 ![] bcast_S_S128x100000 main_cst_7
  let main_v23 : IVec S128x100000 1 := cmpf .olt main_v21 main_v22
  let main_c_8 : IVec S_ 1 := constantI S_ 1 1#1
  let main_v24 : IVec S_ 1 := (fun x v => Host.reduce IntOp.andi x v reducesTo_S128x100000_S_d0_1 h_S_) main_v23 main_c_8
  let main_v25 : IVec S_ 1 := andi main_v20 main_v24
  let main_v26 : FVec F S100000 .f32 := Host.absf main_arg5
  let main_cst_9 : FVec F S_ .f32 := constant S_ .f32 0x7F800000#32
  let main_v27 : FVec F S100000 .f32 := broadcastInDim S100000 ![] bcast_S_S100000 main_cst_9
  let main_v28 : IVec S100000 1 := cmpf .olt main_v26 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v25 main_v29
  main_v30

def fn {F : FTy → Type} [FloatOps F] (main_arg0 : IVec S1024x20 32) (main_arg1 : FVec F S100000x64 .f32) (main_arg2 : FVec F S1280x128 .f32) (main_arg3 : FVec F S128 .f32) (main_arg4 : FVec F S128x100000 .f32) (main_arg5 : FVec F S100000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  let main_v6 : FVec F S100000x64 .f32 := Host.absf main_arg1
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : IVec S_ 1 := andi main_v5 main_v9
  let main_v11 : FVec F S1280x128 .f32 := Host.absf main_arg2
  let main_cst_3 : FVec F S_ .f32 := constant S_ .f32 0x7F800000#32
  let main_v12 : FVec F S1280x128 .f32 := broadcastInDim S1280x128 ![] bcast_S_S1280x128 main_cst_3
  let main_v13 : IVec S1280x128 1 := cmpf .olt main_v11 main_v12
  let main_c_4 : IVec S_ 1 := constantI S_ 1 1#1
  let main_v14 : IVec S_ 1 := (fun x v => Host.reduce IntOp.andi x v reducesTo_S1280x128_S_d0_1 h_S_) main_v13 main_c_4
  let main_v15 : IVec S_ 1 := andi main_v10 main_v14
  let main_v16 : FVec F S128 .f32 := Host.absf main_arg3
  fn_part1 (F := F) main_arg4 main_arg5 main_v15 main_v16
-- ==== Kernel.lean ====
abbrev S1024x20 : Shape := ⟨2, ![1024, 20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S100000x128 : Shape := ⟨2, ![100000, 128]⟩
abbrev S20x64x128 : Shape := ⟨3, ![20, 64, 128]⟩
abbrev S20x128x128 : Shape := ⟨3, ![20, 128, 128]⟩
abbrev S2560x128 : Shape := ⟨2, ![2560, 128]⟩
abbrev S20480 : Shape := ⟨1, ![20480]⟩
abbrev S20480x128 : Shape := ⟨2, ![20480, 128]⟩
abbrev S640 : Shape := ⟨1, ![640]⟩
abbrev S640x128 : Shape := ⟨2, ![640, 128]⟩
abbrev S1024x2560 : Shape := ⟨2, ![1024, 2560]⟩
abbrev S1x128 : Shape := ⟨2, ![1, 128]⟩
abbrev S1x100000 : Shape := ⟨2, ![1, 100000]⟩
abbrev S1024x128 : Shape := ⟨2, ![1024, 128]⟩
abbrev S1024x1 : Shape := ⟨2, ![1024, 1]⟩
abbrev S128x2048 : Shape := ⟨2, ![128, 2048]⟩
abbrev S1x2048 : Shape := ⟨2, ![1, 2048]⟩
abbrev S1024x2048 : Shape := ⟨2, ![1024, 2048]⟩
abbrev S1024 : Shape := ⟨1, ![1024]⟩
abbrev S1024x100000 : Shape := ⟨2, ![1024, 100000]⟩

abbrev nBuf : Table → Nat
  | .hbm => 23
  | .local .tc .vmem => 19
  | .local .scVector .vmem => 2
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S1280x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S_, .f32⟩
  | .hbm, ⟨8, _⟩ => ⟨S100000x128, .f32⟩
  | .hbm, ⟨9, _⟩ => ⟨S20x64x128, .f32⟩
  | .hbm, ⟨10, _⟩ => ⟨S_, .i32⟩
  | .hbm, ⟨11, _⟩ => ⟨S_, .f32⟩
  | .hbm, ⟨12, _⟩ => ⟨S20x128x128, .f32⟩
  | .hbm, ⟨13, _⟩ => ⟨S2560x128, .f32⟩
  | .hbm, ⟨14, _⟩ => ⟨S20480, .i32⟩
  | .hbm, ⟨15, _⟩ => ⟨S20480x128, .f32⟩
  | .hbm, ⟨16, _⟩ => ⟨S1024x2560, .f32⟩
  | .hbm, ⟨17, _⟩ => ⟨S128x100000, .bf16⟩
  | .hbm, ⟨18, _⟩ => ⟨S1x128, .f32⟩
  | .hbm, ⟨19, _⟩ => ⟨S1x100000, .f32⟩
  | .hbm, ⟨20, _⟩ => ⟨S1024x128, .bf16⟩
  | .hbm, ⟨21, _⟩ => ⟨S1024x1, .f32⟩
  | .hbm, ⟨22, _⟩ => ⟨S1024x100000, .f32⟩
  | .local .tc .vmem, ⟨0, _⟩ => ⟨S1024x2560, .f32⟩
  | .local .tc .vmem, ⟨1, _⟩ => ⟨S2560x128, .f32⟩
  | .local .tc .vmem, ⟨2, _⟩ => ⟨S1x128, .f32⟩
  | .local .tc .vmem, ⟨3, _⟩ => ⟨S128x2048, .bf16⟩
  | .local .tc .vmem, ⟨4, _⟩ => ⟨S128x2048, .bf16⟩
  | .local .tc .vmem, ⟨5, _⟩ => ⟨S1x2048, .f32⟩
  | .local .tc .vmem, ⟨6, _⟩ => ⟨S1x2048, .f32⟩
  | .local .tc .vmem, ⟨7, _⟩ => ⟨S1024x128, .bf16⟩
  | .local .tc .vmem, ⟨8, _⟩ => ⟨S1024x1, .f32⟩
  | .local .tc .vmem, ⟨9, _⟩ => ⟨S1024x1, .f32⟩
  | .local .tc .vmem, ⟨10, _⟩ => ⟨S1024x1, .f32⟩
  | .local .tc .vmem, ⟨11, _⟩ => ⟨S1024x128, .bf16⟩
  | .local .tc .vmem, ⟨12, _⟩ => ⟨S128x2048, .bf16⟩
  | .local .tc .vmem, ⟨13, _⟩ => ⟨S128x2048, .bf16⟩
  | .local .tc .vmem, ⟨14, _⟩ => ⟨S1x2048, .f32⟩
  | .local .tc .vmem, ⟨15, _⟩ => ⟨S1x2048, .f32⟩
  | .local .tc .vmem, ⟨16, _⟩ => ⟨S1024x1, .f32⟩
  | .local .tc .vmem, ⟨17, _⟩ => ⟨S1024x2048, .f32⟩
  | .local .tc .vmem, ⟨18, _⟩ => ⟨S1024x2048, .f32⟩
  | .local .scVector .vmem, ⟨0, _⟩ => ⟨S640, .i32⟩
  | .local .scVector .vmem, ⟨1, _⟩ => ⟨S640x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v0_scv : Ref sig .scVector := ⟨.hbm, 8, rfl⟩
abbrev main_v4_scv : Ref sig .scVector := ⟨.hbm, 14, rfl⟩
abbrev main_v5_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg6_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem6_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_3_r1 : BitVec 32 := 0#32
  ![v2.toNat, 0]
abbrev grid1 : Pipeline.Grid := ⟨1, ![49], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c48_i32 : BitVec 32 := 48#32
  let v45 : BitVec 1 := Scalar.cmpi .eq arg0 c48_i32
  let v46 : BitVec 32 := Scalar.extui v45
  let c0_i32_20 : BitVec 32 := 0#32
  let v47 : BitVec 1 := Scalar.cmpi .ne v46 c0_i32_20
  v47

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2560 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2560x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20 : Shape := ⟨2, ![1024, 20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x1280 : Shape := ⟨2, ![1024, 1280]⟩
abbrev S1024x128 : Shape := ⟨2, ![1024, 128]⟩
abbrev S1x128 : Shape := ⟨2, ![1, 128]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S1280x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S1024x20, .i32⟩
  | .hbm, ⟨8, _⟩ => ⟨S1024x20, .i1⟩
  | .hbm, ⟨9, _⟩ => ⟨S_, .i32⟩
  | .hbm, ⟨10, _⟩ => ⟨S1024x20, .i32⟩
  | .hbm, ⟨11, _⟩ => ⟨S1024x20, .i32⟩
  | .hbm, ⟨12, _⟩ => ⟨S1024x20, .i32⟩
  | .hbm, ⟨13, _⟩ => ⟨S1024x20x1, .i32⟩
  | .hbm, ⟨14, _⟩ => ⟨S1, .i32⟩
  | .hbm, ⟨15, _⟩ => ⟨S_, .i32⟩
  | .hbm, ⟨16, _⟩ => ⟨S1024x20x1, .i32⟩
  | .hbm, ⟨17, _⟩ => ⟨S1024x20x1, .i1⟩
  | .hbm, ⟨18, _⟩ => ⟨S1x1x1, .i32⟩
  | .hbm, ⟨19, _⟩ => ⟨S1024x20x1, .i32⟩
  | .hbm, ⟨20, _⟩ => ⟨S1024x20x1, .i1⟩
  | .hbm, ⟨21, _⟩ => ⟨S1024x20x1, .i1⟩
  | .hbm, ⟨22, _⟩ => ⟨S_, .i1⟩
  | .hbm, ⟨23, _⟩ => ⟨S1024x20, .i1⟩
  | .hbm, ⟨24, _⟩ => ⟨S1024x20x64, .f32⟩
  | .hbm, ⟨25, _⟩ => ⟨S1024x20x64, .i1⟩
  | .hbm, ⟨26, _⟩ => ⟨S_, .f32⟩
  | .hbm, ⟨27, _⟩ => ⟨S1024x20x64, .f32⟩
  | .hbm, ⟨28, _⟩ => ⟨S1024x20x64, .f32⟩
  | .hbm, ⟨29, _⟩ => ⟨S1024x1280, .f32⟩
  | .hbm, ⟨30, _⟩ => ⟨S1024x128, .f32⟩
  | .hbm, ⟨31, _⟩ => ⟨S1x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x100000, .f32⟩
  | .hbm, ⟨38, _⟩ => ⟨S1x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024x1, .f32⟩
  | .hbm, ⟨50, _⟩ => ⟨S1024x100000, .f32⟩
  | .hbm, ⟨51, _⟩ => ⟨S1024x100000, .f32⟩
  | .hbm, ⟨52, _⟩ => ⟨S1024x100000, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S1024x1, .f32⟩
  | .hbm, ⟨57, _⟩ => ⟨S1024x100000, .f32⟩
  | .hbm, ⟨58, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call2_cst : Ref sig .tc := ⟨.hbm, 41, rfl⟩
abbrev main_call2_v0 : Ref sig .tc := ⟨.hbm, 42, rfl⟩
abbrev main_v11 : Ref sig .tc := ⟨.hbm, 43, rfl⟩
abbrev main_call3_cst : Ref sig .tc := ⟨.hbm, 44, rfl⟩
abbrev main_call3_v0 : Ref sig .tc := ⟨.hbm, 45, rfl⟩
abbrev main_call3_cst_0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_cst_1 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_v12 : Ref sig .tc := ⟨.hbm, 58, rfl⟩

abbrev nD : Nat := 1
abbrev τ : Topo := Topo.v7x

variable {F : FTy → Type} [FloatOps F]
-- ==== Proof.IdSc.lean ====
/-
  The SparseCore call of the kernel: thirty-two tasks on the two SparseCores' tiles, task `w = 2 * tile + core` fetching
  its 640 row numbers out of the flattened indices, streaming those rows of the padded table into its row scratch by the
  indirect gather, and writing them out to its 640 rows of the call's result. Here: the resource algebra of the whole
  certificate, what the call's handshakes carry, one task's triple WITH THE VALUE it leaves (row `r` of its block is row
  `idx[r]` of the table), and the call's split and join.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArraysF
public import Idealize.ShloMosaic.Lib.Pipeline.ArrRel
public import Idealize.ShloMosaic.Lib.Tactic
public import Idealize.ShloMosaic.Lib.Pointwise
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels under the SparseCore's: the two pipelines' over the kernels'. -/
abbrev ΛP : Labels := Pipeline.Sig Λ₀ (Fin 2) fun p => (pcfgs (F := F) p).Adm
/-- The SparseCore configuration. -/
abbrev K : SparseCore.Cfg τ sig (ΛP (F := F)) 1 := sc (F := F)
theorem nSub_zero : (K (F := F)).nSub 0 = 16 := rfl
theorem nCore_zero : (K (F := F)).nCore 0 = 2 := rfl
/-- The bodies under the SparseCore's table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are unscoped and distinct, and no buffer is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters, the pipelines' rounds -/

abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

/-! ## The buffers and the tasks' blocks -/

abbrev iLoc (d : Dev nD) : Loc nD τ sig := (SparseCore.T d).loc main_v4
abbrev xLoc (d : Dev nD) : Loc nD τ sig := (SparseCore.T d).loc main_v0
abbrev oLoc (d : Dev nD) : Loc nD τ sig := (SparseCore.T d).loc main_v5

local notation "iV" => (Memref.whole Cert.KernelIdeal.main_v4_scv : Memref Cert.KernelIdeal.sig Kind.scVector Space.hbm Cert.KernelIdeal.S20480 EltTy.i32)
local notation "xV" => (Memref.whole Cert.KernelIdeal.main_v0_scv : Memref Cert.KernelIdeal.sig Kind.scVector Space.hbm Cert.KernelIdeal.S100000x128 EltTy.f32)
local notation "oV" => (Memref.whole Cert.KernelIdeal.main_v5_scv : Memref Cert.KernelIdeal.sig Kind.scVector Space.hbm Cert.KernelIdeal.S20480x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)

theorem idiv : 32 ∣ S20480.size 0 := ⟨640, rfl⟩
theorem odiv : 32 ∣ S20480x128.size 0 := ⟨640, rfl⟩
abbrev irow (w : Fin 32) : Rect S20480 := Rect.part (s := S20480) (a₀ := 0) idiv w
abbrev orow (w : Fin 32) : Rect S20480x128 := Rect.part (s := S20480x128) (a₀ := 0) odiv w
abbrev iRowSet (w : Fin 32) : Finset S20480.Idx := ((iV).view.slice (irow w)).set
abbrev oRowSet (w : Fin 32) : Finset S20480x128.Idx := ((oV).view.slice (orow w)).set

/-- Task `w`'s share of the table. -/
abbrev xq (w : Fin 32) : PosShare TreeShare := Idealize.ShloMosaic.pieceOf fullShare 32 (by decide) w

/-- The task of tile `i` of core `c`. -/
def task (c : Fin 2) (i : Fin 16) : Fin 32 := ⟨2 * i.val + c.val, by omega⟩

/-- What the call leaves: row `r` of the result is the row of the table that word `r` of the list names. -/
def gathered (X : S100000x128.Idx → Elt F .f32) (I : S20480.Idx → Elt F .i32) : S20480x128.Idx → Elt F .f32 := fun j =>
  X (ix2 (⟨(I (ix1 (j 0))).toNat % 100000, Nat.mod_lt _ (by decide)⟩ : Fin 100000) (j 1))

/-! ## What the handshakes carry -/

variable (X : (d : Dev nD) → Buf (Elt F) (xLoc d)) (I : (d : Dev nD) → Buf (Elt F) (iLoc d)) (O₀ : (d : Dev nD) → Buf (Elt F) (oLoc d))

abbrev iRowPts (d : Dev nD) (w : Fin 32) : sProp 𝕄 := iLoc d ↦[iRowSet w]{fullShare} I d
abbrev xShPts (d : Dev nD) (w : Fin 32) : sProp 𝕄 := xLoc d ↦{xq w} X d
abbrev oRowPts (d : Dev nD) (w : Fin 32) (f : Buf (Elt F) (oLoc d)) : sProp 𝕄 := oLoc d ↦[oRowSet w]{fullShare} f

/-- A task's resources, its rows of the result at `f`. -/
abbrev taskRes (d : Dev nD) (f : Buf (Elt F) (oLoc d)) (w : Fin 32) : sProp 𝕄 := iprop(iRowPts I d w ∗ xShPts X d w ∗ oRowPts d w f)

/-- The rows of the result after the call. -/
abbrev G (d : Dev nD) : Buf (Elt F) (oLoc d) := gathered (X d) (I d)

/-- Core `c` is handed its sixteen tiles' resources, each tile its own, the result's rows at the contents the call
    finds; they come back with the result's rows gathered. -/
def P : (K (F := F)).Pay (nD := nD) (Val := Elt F) (Name := ℕ) (U := UU) where
  st := fun q d c => match q with | 0 => bigSep Finset.univ fun i : Fin 16 => taskRes X I d (O₀ d) (task (Fin.cast nCore_zero c) i)
  dn := fun q d c => match q with | 0 => bigSep Finset.univ fun i : Fin 16 => taskRes X I d (G X I d) (task (Fin.cast nCore_zero c) i)
  go := fun q d c i => match q with | 0 => taskRes X I d (O₀ d) (task (Fin.cast nCore_zero c) (Fin.cast nSub_zero i))
  td := fun q d c i => match q with | 0 => taskRes X I d (G X I d) (task (Fin.cast nCore_zero c) (Fin.cast nSub_zero i))
  x := fun _ _ => iprop(emp)

instance P_storable : (P X I O₀).IsStorable where
  st q d c := match q with
    | 0 => (inferInstance : BI.Storable (upEmb : UEmb _ 𝕄) (bigSep Finset.univ fun i : Fin 16 => taskRes X I d (O₀ d) (task (Fin.cast nCore_zero c) i)))
  dn q d c := match q with
    | 0 => (inferInstance : BI.Storable (upEmb : UEmb _ 𝕄) (bigSep Finset.univ fun i : Fin 16 => taskRes X I d (G X I d) (task (Fin.cast nCore_zero c) i)))
  go q d c i := match q with
    | 0 => (inferInstance : BI.Storable (upEmb : UEmb _ 𝕄) (taskRes X I d (O₀ d) (task (Fin.cast nCore_zero c) (Fin.cast nSub_zero i))))
  td q d c i := match q with
    | 0 => (inferInstance : BI.Storable (upEmb : UEmb _ 𝕄) (taskRes X I d (G X I d) (task (Fin.cast nCore_zero c) (Fin.cast nSub_zero i))))

/-- What the tasks need of the list: every word of it names a row of the table. -/
def ListOK : Prop := ∀ (d : Dev nD) (j : S20480.Idx), (I d j).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := task (Fin.cast bound_zero (L 0)) (Fin.cast bound_one (L 1))

abbrev irowK (L : grid0.Coords) : Rect S20480 := Rect.unit (s := S20480) (k0_off1 L) S640.size (k0_off1_inb L)
abbrev orowK (L : grid0.Coords) : Rect S20480x128 := Rect.unit (s := S20480x128) (k0_off2 L) S640x128.size (k0_off2_inb L)
/-- The task's rows of the list and of the result, and all of the table, as the task addresses them. -/
abbrev iRowK (L : grid0.Coords) : Memref sig .scVector .hbm S640 .i32 := (iV).slice (irowK L) (fun _ => rfl)
abbrev oRowK (L : grid0.Coords) : Memref sig .scVector .hbm S640x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

theorem irowK_eq : irowK L = irow (wL L) := by
  unfold irowK irow Rect.part Rect.block
  congr 1 <;> funext a
  · rw [k0_off1_eq]
    match a with
    | 0 =>
      simp only [Matrix.cons_val_zero, Shape.partIx, Shape.partSize, if_true, wL, task, Fin.val_cast]
      show _ = (2 * (L 1).val + (L 0).val) * (20480 / 32)
      omega
  · match a with
    | 0 => simp [Shape.partSize]
theorem orowK_eq : orowK L = orow (wL L) := by
  unfold orowK orow Rect.part Rect.block
  congr 1 <;> funext a
  · rw [k0_off2_eq]
    match a with
    | 0 =>
      simp only [Matrix.cons_val_zero, Shape.partIx, Shape.partSize, if_true, wL, task, Fin.val_cast]
      show _ = (2 * (L 1).val + (L 0).val) * (20480 / 32)
      omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The task's three transfer cells are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable {I}

/-- The row numbers the stream reads are in range: the fetch landed the task's words of the list. -/
theorem inb_of_list (hI : ListOK I) (fs : Buf (Elt F) ((V d (cV L) (jV L)).loc cc0_scratch0)) (pay : S640.Idx → Elt F .i32)
    (hpay : pay = (iRowK L).view.read (Elt F) (I d)) :
    ∀ x, ((sV).view.read (Elt F) (View.write (Elt F) (sV).view fs pay Finset.univ) x).toNat < S100000x128.size gathers_S100000x128_S640x128.axis := by
  subst hpay; intro x
  rw [View.write_whole_univ]
  simp only [Memref.view_whole, View.read_whole]
  rw [show ∀ j, (iRowK L).view.read (Elt F) (I d) j = I d ((iRowK L).view.emb j) from fun j => (View.read_apply _ _).trans (cast_eq _ _)]
  exact hI d _

/-- The words the fetch landed, at an index: word `1280 * tile + 640 * core + x` of the list. -/
theorem list_read (I₀ : Buf (Elt F) (iLoc d)) (x : Fin 640) (y : Fin 20480) (h : y.val = (wL L).val * 640 + x.val) :
    (iRowK L).view.read (Elt F) I₀ (ix1 x) = I₀ (ix1 y) := by
  rw [show ∀ j, (iRowK L).view.read (Elt F) I₀ j = I₀ ((iRowK L).view.emb j) from fun j => (View.read_apply _ _).trans (cast_eq _ _)]
  congr 1
  funext a
  match a with
  | ⟨0, _⟩ =>
    apply Fin.ext
    show (k0_off1 L) 0 + 1 * x.val = y.val
    rw [k0_off1_eq, h]
    show 1280 * (L 1).val + 640 * (L 0).val + 1 * x.val = (2 * (L 1).val + (L 0).val) * 640 + x.val
    omega

theorem symm_S640 (n : Fin S640.numel) : S640.rowMajor.symm n = ix1 (n.cast (by decide : S640.numel = 640)) :=
  (S640.rowMajor.symm_apply_eq).2 (Fin.ext (by rw [Shape.rowMajor_val_one]; rfl))

/-- What the stream leaves in the row scratch is the task's block of the gathered table. -/
theorem stream_eq (hI : ListOK I) (fs : Buf (Elt F) ((V d (cV L) (jV L)).loc cc0_scratch0)) (pay : S640.Idx → Elt F .i32)
    (hpay : pay = (iRowK L).view.read (Elt F) (I d)) (hn) (hin) (x : S640x128.Idx) :
    SparseCore.gatherPayload gathers_S100000x128_S640x128 ((xAllK).view.read (Elt F) (X d))
        (SparseCore.rows ((sV).view.read (Elt F) (View.write (Elt F) (sV).view fs pay Finset.univ)) hn hin) x
      = G X I d ((oRowK L).view.emb x) := by
  subst hpay
  idx_vars x
  unfold SparseCore.gatherPayload
  rw [show ∀ j, (xAllK).view.read (Elt F) (X d) j = X d ((xAllK).view.emb j) from fun j => (View.read_apply _ _).trans (cast_eq _ _)]
  show _ = gathered (X d) (I d) _
  unfold gathered
  congr 1
  funext a
  apply Fin.ext
  match a with
  | ⟨0, _⟩ =>
    show 0 + 1 * (Shape.Gathers.idx gathers_S100000x128_S640x128 _ (ix2 x0 x1) gathers_S100000x128_S640x128.axis).val = _
    rw [Shape.Gathers.idx_axis]
    have hb : (wL L).val * 640 + x0.val < 20480 := by have := (wL L).isLt; omega
    have hw : (sV).view.read (Elt F) (View.write (Elt F) (sV).view fs ((iRowK L).view.read (Elt F) (I d)) Finset.univ)
        (S640.rowMajor.symm ((x0.cast (by decide : 640 = S640.numel)))) = I d (ix1 ⟨(wL L).val * 640 + x0.val, hb⟩) := by
      rw [View.write_whole_univ, symm_S640]
      exact list_read d L (I d) _ ⟨(wL L).val * 640 + x0.val, hb⟩ rfl
    have e : ((oRowK L).view.emb (ix2 x0 x1)) 0 = (⟨(wL L).val * 640 + x0.val, hb⟩ : Fin 20480) := by
      apply Fin.ext
      show (k0_off2 L) 0 + 1 * x0.val = _
      rw [k0_off2_eq]
      show 1280 * (L 1).val + 640 * (L 0).val + 1 * x0.val = (2 * (L 1).val + (L 0).val) * 640 + x0.val
      omega
    have e' : (I d (ix1 (((oRowK L).view.emb (ix2 x0 x1)) 0))).toNat % 100000 = (I d (ix1 ⟨(wL L).val * 640 + x0.val, hb⟩)).toNat := by
      rw [Nat.mod_eq_of_lt (hI d _)]
      exact congrArg (fun y : Fin 20480 => (I d (ix1 y)).toNat) e
    refine Eq.trans ?_ e'.symm
    refine Eq.trans ?_ (congrArg BitVec.toNat hw)
    exact (Nat.zero_add _).trans (Nat.one_mul _)
  | ⟨1, _⟩ =>
    show 0 + 1 * (Shape.Gathers.idx gathers_S100000x128_S640x128 _ (ix2 x0 x1) 1).val = (((oRowK L).view.emb (ix2 x0 x1)) 1).val
    rw [Shape.Gathers.idx_of_ne _ _ _ _ (by decide)]
    show 0 + 1 * x1.val = (k0_off2 L) 1 + 1 * x1.val
    rw [k0_off2_eq]
    rfl

/-- The task's rows of the result, written with a block of the gathered table, hold the gathered table. -/
theorem oRow_congr (f : Buf (Elt F) (oLoc d)) (pay : S640x128.Idx → Elt F .f32) (hpay : ∀ x, pay x = G X I d ((oRowK L).view.emb x)) :
    ((oRowK L).view.loc (V d (cV L) (jV L)) ↦[(oRowK L).view.set]{fullShare} ((oRowK L).view.writes (Elt F) f [⟨Rect.whole S640x128, pay⟩]) : sProp 𝕄)
      = oLoc d ↦[oRowSet (wL L)]{fullShare} G X I d := by
  rw [← pts_oRowK]
  refine pointsTo_congr fun i hi => ?_
  obtain ⟨x, -, rfl⟩ := Finset.mem_map.mp hi
  refine Eq.trans ?_ (hpay x)
  refine Eq.trans ?_ (congrFun (View.read_writes_whole (oRowK L).view f pay) x)
  exact ((View.read_apply _ _).trans (cast_eq _ _)).symm

variable [FloatOps F]

set_option maxHeartbeats 4000000 in
/-- The task on vector subcore `(L 0, L 1)` of device `d`: it brings its resources back with its rows of the result
    gathered, its scratch buffers and its cells as they were found. -/
theorem tile_body (hF : (K (F := F)).Facts) (hI : ListOK I) (O : CellTallies nD τ sig (HIx 1)) (W : Waits sig (HIx 1)) (hO : ∀ g, O g none = 0) :
    iprop(levAts (K (F := F)).L (K (F := F)).lev ∗ emp
        ∗ taskRes X I d (O₀ d) (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(taskRes X I d (G X I d) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (wL L)) (f := X d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L) Finset.univ : sProp 𝕄)
      = (sV).view.loc (V d (cV L) (jV L)) ↦[(sV).view.set]{fullShare} View.write (Elt F) (sV).view fs (tile_body.sl.dma0 d L) Finset.univ
      by rw [hss])) $$ Hs'
  have hN : ∀ h : S100000x128.Gathers 0 S640x128, ∑ j, ((rV).slice (S640x128.rowRect h.axis' j) (S640x128.stride_rowRect h.axis' j)).view.dmaCredit
      = (rV).view.dmaCredit := by decide +kernel
  iapply (SparseCore.wp_indirectGatherLocal countersEmb 𝒱₀ (V d (cV L) (jV L)) none (hg := gathers_S100000x128_S640x128) (default : HIx 1)
      (rV).view.dmaCredit (hN _) (by decide) (inb_of_list d L hI fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (wL L)) (f := X d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    have hp : ∀ x, tile_body.sl.dma0_1 X d L hI fs fr x = G X I d ((oRowK L).view.emb x) := by
      intro x
      unfold tile_body.sl.dma0_1
      show (View.write (Elt F) (View.whole cc0_scratch1) fr (SparseCore.gatherPayload _ _ _) Finset.univ) x = _
      rw [View.write_whole_univ]
      exact stream_eq X d L hI fs _ rfl _ _ x
    iapply (Entails.of_eq (oRow_congr X d L (O₀ d) _ hp)); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets its triple. -/
theorem tileObl (hF : (K (F := F)).Facts) (hI : ListOK I) : (K (F := F)).TileObl (D (F := F)) 𝒱 (P X I O₀) v₀ 0 := by
  intro d c i O W hO _ _
  simp only [show (P X I O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X O₀ d (coordsV ⟨_, hci.1⟩ ⟨_, hci.2⟩) hF hI O W hO).trans (wp_mono frame _ _ fun _ => obl_post)

end Tile

/-! ## The call's split and join -/

/-- A core's resources are its tiles', each its own. -/
theorem vecSplit : (K (F := F)).VecSplit' (P X I O₀) 0 := by
  intro d c
  show (bigSep Finset.univ fun i : Fin 16 => taskRes X I d (O₀ d) (task (Fin.cast nCore_zero c) i)) ⊢ |={Set.univ}=> iprop(
      (bigSep Finset.univ fun i : Fin ((K (F := F)).nSub 0) => taskRes X I d (O₀ d) (task (Fin.cast nCore_zero c) (Fin.cast nSub_zero i)))
      ∗ ((bigSep Finset.univ fun i : Fin ((K (F := F)).nSub 0) => taskRes X I d (G X I d) (task (Fin.cast nCore_zero c) (Fin.cast nSub_zero i)))
          -∗ (bigSep Finset.univ fun i : Fin 16 => taskRes X I d (G X I d) (task (Fin.cast nCore_zero c) i))))
  refine .trans ?_ fupd_intro
  iintro H
  isplitl [H]
  · iexact H
  iintro H
  iexact H

theorem iRowSet_eq (w : Fin 32) : iRowSet w = (irow w).set := by
  show ((View.whole (main_v4_scv : Ref sig .scVector)).slice (irow w)).set = _
  rw [View.set_slice]; exact Finset.map_refl
theorem oRowSet_eq (w : Fin 32) : oRowSet w = (orow w).set := by
  show ((View.whole (main_v5_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun w : Fin 32 => xLoc d ↦{xq w} f :=
  Idealize.ShloMosaic.pointsTo_piecesOf Finset.univ f (by decide) fullShare

/-- The tasks by core and tile. -/
def taskEquiv : Fin 2 × Fin 16 ≃ Fin 32 where
  toFun p := task p.1 p.2
  invFun w := (⟨w.val % 2, by omega⟩, ⟨w.val / 2, by omega⟩)
  left_inv p := by
    obtain ⟨c, i⟩ := p
    simp only [task, Prod.mk.injEq, Fin.ext_iff]
    omega
  right_inv w := by
    simp only [task, Fin.ext_iff]
    omega

/-- The list, the table and the result, held whole, are the two cores' tiles' resources. -/
theorem whole_eq_cores (d : Dev nD) (f : Buf (Elt F) (oLoc d)) :
    (iprop((iLoc d ↦{fullShare} I d) ∗ (xLoc d ↦{fullShare} X d) ∗ (oLoc d ↦{fullShare} f)) : sProp 𝕄)
      = bigSep Finset.univ fun c : Fin 2 => bigSep Finset.univ fun i : Fin 16 => taskRes X I d f (task c i) := by
  rw [iPts_rows, xPts_shares, oPts_rows, ← bigSep_sep', ← bigSep_sep',
    bigSep_univ_equiv taskEquiv, bigSep_univ_prod]
  rfl

end Cert.Proof.Id

end
-- ==== Proof.IdBody.lean ====
/-
  The two TensorCore kernels' bodies, run once each for any staging buffers: what each load reads and each store leaves.
-/
module

public import proofs.«01_k».proof.Proof.IdSc
public import Idealize.ShloMosaic.Lib.VecWindow

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- The writing kernel: four operands read, the result's buffer left at the written payload. -/
theorem wp_write (c : Dev nD) (i : grid2.Coords)
    (arg1 : Memref sig .tc .vmem S1024x128 .bf16) (harg1 : arg1.IsWhole) (arg2 : Memref sig .tc .vmem S128x2048 .bf16) (harg2 : arg2.IsWhole)
    (arg3 : Memref sig .tc .vmem S1x2048 .f32) (harg3 : arg3.IsWhole) (arg4 : Memref sig .tc .vmem S1024x1 .f32) (harg4 : arg4.IsWhole)
    (arg5 : Memref sig .tc .vmem S1024x2048 .f32) (harg5 : arg5.IsWhole)
    (X1 : S1024x128.Idx → Elt F .bf16) (X2 : S128x2048.Idx → Elt F .bf16) (X3 : S1x2048.Idx → Elt F .f32) (X4 : S1024x1.Idx → Elt F .f32)
    (X5 : S1024x2048.Idx → Elt F .f32) (Q : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5
        ∗ (iprop(owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare (k2_pay1 (F := F) X1 X2 X3 X4)) -∗ Q ⟨⟩))
      ⊢ wp frame (wpE (defs₀ (F := F)) 𝒱₀ (c : Thread nD τ) none) Set.univ
          (cc2__write_kernel i arg1 harg1 arg2 harg2 arg3 harg3 arg4 harg4 arg5 harg5) Q := by
  simp only [cc2__write_kernel_eq_skeleton]; unfold cc2__write_kernel_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr
  swap; · iexact H5
  ipureintro
  rw [View.read_writes_full, View.readAt_full, View.readAt_full, View.readAt_full, View.readAt_full, e1, e2, e3, e4]

/-- The hidden layer the body works with at a point: computed at the first, found at the others. -/
def hAt (i : grid1.Coords) (X1 : S1024x2560.Idx → Elt F .f32) (X2 : S2560x128.Idx → Elt F .f32) (X3 : S1x128.Idx → Elt F .f32)
    (X6 : S1024x128.Idx → Elt F .bf16) : S1024x128.Idx → Elt F .bf16 :=
  if k1_cond1 i = 1#1 then k1_pay4 X1 X2 X3 else X6

/-- The running maximum and the running sum a point starts from: zero at the first, found at the others. -/
def mAt (i : grid1.Coords) (m : S1024x1.Idx → Elt F .f32) : S1024x1.Idx → Elt F .f32 := if k1_cond1 i = 1#1 then k1_pay5 (F := F) else m
def sAt (i : grid1.Coords) (s : S1024x1.Idx → Elt F .f32) : S1024x1.Idx → Elt F .f32 := if k1_cond1 i = 1#1 then k1_pay6 (F := F) else s

/-- The running maximum and the running sum a point leaves. -/
def mNext (i : grid1.Coords) (h : S1024x128.Idx → Elt F .bf16) (X4 : S128x2048.Idx → Elt F .bf16) (X5 : S1x2048.Idx → Elt F .f32)
    (m : S1024x1.Idx → Elt F .f32) : S1024x1.Idx → Elt F .f32 := k1_pay2 (k1_pay8 i h X4 X5 m)
def sNext (i : grid1.Coords) (h : S1024x128.Idx → Elt F .bf16) (X4 : S128x2048.Idx → Elt F .bf16) (X5 : S1x2048.Idx → Elt F .f32)
    (m s : S1024x1.Idx → Elt F .f32) : S1024x1.Idx → Elt F .f32 := k1_pay1 (k1_pay9 i h X4 X5 m s m) (k1_pay10 i h X4 X5 m)

set_option maxHeartbeats 1000000 in
/-- The statistics kernel at a point: the five operands read; the hidden layer's buffer, the two accumulators and the
    result's buffer left as the definitions above say, the result written at the last point only. -/
theorem wp_stats (c : Dev nD) (i : grid1.Coords)
    (arg1 : Memref sig .tc .vmem S1024x2560 .f32) (harg1 : arg1.IsWhole) (arg2 : Memref sig .tc .vmem S2560x128 .f32) (harg2 : arg2.IsWhole)
    (arg3 : Memref sig .tc .vmem S1x128 .f32) (harg3 : arg3.IsWhole) (arg4 : Memref sig .tc .vmem S128x2048 .bf16) (harg4 : arg4.IsWhole)
    (arg5 : Memref sig .tc .vmem S1x2048 .f32) (harg5 : arg5.IsWhole) (arg6 : Memref sig .tc .vmem S1024x128 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1 .f32) (harg9 : arg9.IsWhole)
    (X1 : S1024x2560.Idx → Elt F .f32) (X2 : S2560x128.Idx → Elt F .f32) (X3 : S1x128.Idx → Elt F .f32)
    (X4 : S128x2048.Idx → Elt F .bf16) (X5 : S1x2048.Idx → Elt F .f32) (X6 : S1024x128.Idx → Elt F .bf16) (X7 : S1024x1.Idx → Elt F .f32)
    (m s : S1024x1.Idx → Elt F .f32) (Q : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare m ∗ owns (c : Thread nD τ) arg9 fullShare s
        ∗ (iprop(owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare X5
          ∗ owns (c : Thread nD τ) arg6 fullShare (hAt i X1 X2 X3 X6)
          ∗ owns (c : Thread nD τ) arg7 fullShare (if k1_cond2 i = 1#1 then
              k1_pay3 (mNext i (hAt i X1 X2 X3 X6) X4 X5 (mAt i m)) (sNext i (hAt i X1 X2 X3 X6) X4 X5 (mAt i m) (sAt i s)) else X7)
          ∗ owns (c : Thread nD τ) arg8 fullShare (mNext i (hAt i X1 X2 X3 X6) X4 X5 (mAt i m))
          ∗ owns (c : Thread nD τ) arg9 fullShare (sNext i (hAt i X1 X2 X3 X6) X4 X5 (mAt i m) (sAt i s))) -∗ Q ⟨⟩))
      ⊢ wp frame (wpE (defs₀ (F := F)) 𝒱₀ (c : Thread nD τ) none) Set.univ
          (cc1__stats_kernel i arg1 harg1 arg2 harg2 arg3 harg3 arg4 harg4 arg5 harg5 arg6 harg6 arg7 harg7 arg8 harg8 arg9 harg9) Q := by
  simp only [cc1__stats_kernel_eq_skeleton]; unfold cc1__stats_kernel_skel
  simp only [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  have r1 : ∀ inb, View.readAt (Elt F) arg1.view (Rect.unit (s := S1024x2560) ![0, 0] ![1024, 2560] inb).toLoadRect f1 = X1 :=
    fun inb => (View.readAt_full arg1.view f1 inb).trans e1
  have r2 : ∀ inb, View.readAt (Elt F) arg2.view (Rect.unit (s := S2560x128) ![0, 0] ![2560, 128] inb).toLoadRect f2 = X2 :=
    fun inb => (View.readAt_full arg2.view f2 inb).trans e2
  have r3 : ∀ inb, View.readAt (Elt F) arg3.view (Rect.unit (s := S1x128) ![0, 0] ![1, 128] inb).toLoadRect f3 = X3 :=
    fun inb => (View.readAt_full arg3.view f3 inb).trans e3
  have c6 : ∀ inb inb' (w : S1024x128.Idx → Elt F .bf16) L, arg6.view.readCov (Val := Elt F) (⟨Rect.unit (s := S1024x128) ![0, 0] ![1024, 128] inb, w⟩ :: L)
      (Rect.unit (s := S1024x128) ![0, 0] ![1024, 128] inb').toLoadRect = w := fun inb inb' w L => View.readCov_full arg6.view inb' inb w L
  have c8 : ∀ inb inb' (w : S1024x1.Idx → Elt F .f32) L, arg8.view.readCov (Val := Elt F) (⟨Rect.unit (s := S1024x1) ![0, 0] ![1024, 1] inb, w⟩ :: L)
      (Rect.unit (s := S1024x1) ![0, 0] ![1024, 1] inb').toLoadRect = w := fun inb inb' w L => View.readCov_full arg8.view inb' inb w L
  have c9 : ∀ inb inb' (w : S1024x1.Idx → Elt F .f32) L, arg9.view.readCov (Val := Elt F) (⟨Rect.unit (s := S1024x1) ![0, 0] ![1024, 1] inb, w⟩ :: L)
      (Rect.unit (s := S1024x1) ![0, 0] ![1024, 1] inb').toLoadRect = w := fun inb inb' w L => View.readCov_full arg9.view inb' inb w L
  have r4 : ∀ inb, View.readAt (Elt F) arg4.view (Rect.unit (s := S128x2048) ![0, 0] ![128, 2048] inb).toLoadRect f4 = X4 :=
    fun inb => (View.readAt_full arg4.view f4 inb).trans e4
  have r5 : ∀ inb, View.readAt (Elt F) arg5.view (Rect.unit (s := S1x2048) ![0, 0] ![1, 2048] inb).toLoadRect f5 = X5 :=
    fun inb => (View.readAt_full arg5.view f5 inb).trans e5
  have r6 : ∀ inb, View.readAt (Elt F) arg6.view (Rect.unit (s := S1024x128) ![0, 0] ![1024, 128] inb).toLoadRect f6 = X6 :=
    fun inb => (View.readAt_full arg6.view f6 inb).trans e6
  have r8 : ∀ inb, View.readAt (Elt F) arg8.view (Rect.unit (s := S1024x1) ![0, 0] ![1024, 1] inb).toLoadRect f8 = m :=
    fun inb => (View.readAt_full arg8.view f8 inb).trans e8
  have r9 : ∀ inb, View.readAt (Elt F) arg9.view (Rect.unit (s := S1024x1) ![0, 0] ![1024, 1] inb).toLoadRect f9 = s :=
    fun inb => (View.readAt_full arg9.view f9 inb).trans e9
  by_cases h1 : k1_cond1 i = 1#1 <;> by_cases h2 : k1_cond2 i = 1#1
  all_goals
    simp only [h1, h2, if_true, if_false, dif_pos, dif_neg, not_false_eq_true, hAt, mAt, sAt]
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; isplitr
      swap; · iexact H6
      ipureintro
      first | (with_reducible exact e6) | (sl_unfold_run_names; (try dsimp only); refine (View.read_writes_full _ _ _ _ _).trans ?_; (try simp only [r1, r2, r3, c6, c8, c9]); try rfl)
    isplitl [H7]
    · iexists _; isplitr
      swap; · iexact H7
      ipureintro
      first | (with_reducible exact e7) | (sl_unfold_run_names; (try dsimp only); refine (View.read_writes_full _ _ _ _ _).trans ?_; (try simp only [r1, r2, r3, c6, c8, c9]); rfl)
    isplitl [H8]
    · iexists _; isplitr
      swap; · iexact H8
      ipureintro
      sl_unfold_run_names
      dsimp only
      refine (View.read_writes_full _ _ _ _ _).trans ?_
      try simp only [r1, r2, r3, c6, c8, c9]
      rfl
    iexists _; isplitr
    swap; · iexact H9
    ipureintro
    sl_unfold_run_names
    dsimp only
    refine (View.read_writes_full _ _ _ _ _).trans ?_
    try simp only [r1, r2, r3, c6, c8, c9]
    rfl

end Cert.Proof.Id

end
-- ==== Proof.IdData.lean ====
/-
  What the two TensorCore kernels keep between grid points: the blocks of the padded vocabulary each point works with, the
  running maximum and sum, and what each window's staging buffer may hold when the body runs.
-/
module

public import proofs.«01_k».proof.Proof.IdBody

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window)

variable {F : FTy → Type} [FloatOps F] [∀ e, Nonempty (Elt F e)]

local notation "𝕄" => MT nD τ sig (HIx 1) (Elt F) ℕ UU ℕ

/-- A buffer of the TensorCore, as a valuation is asked for it. -/
abbrev dr (b : Ref sig .tc) : DevRef τ sig := Proc.devRef (.tc : Proc τ) b

/-- Block `t` of the second weight, wherever its columns lie inside the vocabulary. -/
def BlkW (W : S128x100000.Idx → Elt F .bf16) (t : ℕ) (X : S128x2048.Idx → Elt F .bf16) : Prop :=
  ∀ (k : Fin 128) (j : Fin 2048) (h : 2048 * t + j.val < 100000), X (ix2 k j) = W (ix2 k ⟨2048 * t + j.val, h⟩)

/-- Block `t` of the second bias, wherever its columns lie inside the vocabulary. -/
def BlkB (B : S1x100000.Idx → Elt F .f32) (t : ℕ) (X : S1x2048.Idx → Elt F .f32) : Prop :=
  ∀ (j : Fin 2048) (h : 2048 * t + j.val < 100000), X (ix2 0 j) = B (ix2 0 ⟨2048 * t + j.val, h⟩)

/-- The running maximum and sum after `n` blocks: zero before the first, each block's step after. -/
def Inv (H : S1024x128.Idx → Elt F .bf16) (W : S128x100000.Idx → Elt F .bf16) (B : S1x100000.Idx → Elt F .f32) :
    ℕ → (S1024x1.Idx → Elt F .f32) → (S1024x1.Idx → Elt F .f32) → Prop
  | 0, m, s => m = k1_pay5 (F := F) ∧ s = k1_pay6 (F := F)
  | t + 1, m, s => ∃ (i : grid1.Coords) (m0 s0 : S1024x1.Idx → Elt F .f32) (X4 : S128x2048.Idx → Elt F .bf16) (X5 : S1x2048.Idx → Elt F .f32),
      (i 0).val = t ∧ Inv H W B t m0 s0 ∧ BlkW W t X4 ∧ BlkB B t X5 ∧ m = mNext i H X4 X5 m0 ∧ s = sNext i H X4 X5 m0 s0

/-- The row statistics after all the blocks. -/
def LseOf (H : S1024x128.Idx → Elt F .bf16) (W : S128x100000.Idx → Elt F .bf16) (B : S1x100000.Idx → Elt F .f32)
    (X : S1024x1.Idx → Elt F .f32) : Prop := ∃ m s, Inv H W B 49 m s ∧ X = k1_pay3 m s

/-- Block `t` of the result, from the hidden layer, the row statistics and the blocks of the weight and the bias. -/
def OutOf (H : S1024x128.Idx → Elt F .bf16) (W : S128x100000.Idx → Elt F .bf16) (B : S1x100000.Idx → Elt F .f32)
    (L : S1024x1.Idx → Elt F .f32) (t : ℕ) (X : S1024x2048.Idx → Elt F .f32) : Prop :=
  ∃ X2 X3, BlkW W t X2 ∧ BlkB B t X3 ∧ X = k2_pay1 H X2 X3 L

/-! ## The data of the first region -/

section Data

variable (V : Valuation τ sig (Elt F)) (c : Dev nD)

/-- The hidden layer, from the region's entry contents. -/
abbrev hid : S1024x128.Idx → Elt F .bf16 := k1_pay4 (F := F) (V (dr main_v6)) (V (dr main_v3)) (V (dr main_v8))

/-- The scoped buffers the first region neither stages nor uses. -/
def rest1 : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- The first region's invariant before point `n`: the two scratch buffers at a running maximum and sum. -/
def phi1 (n : ℕ) : sProp 𝕄 :=
  iprop(∃ (m s : S1024x1.Idx → Elt F .f32), ⌜n ≠ 0 → Inv (hid V) (V (dr main_v7)) (V (dr main_v9)) n m s⌝
    ∗ (((c : Thread nD τ).loc cc1_scratch0) ↦{fullShare} m) ∗ (((c : Thread nD τ).loc cc1_scratch1) ↦{fullShare} s) ∗ rest1 c)

/-- The pairs a TensorCore's waits have recorded once the one launch is over. -/
def rec0 : Set (SemLoc sig × HIx 1) := {p | (K (F := F)).lev (T c, p.1) p.2 ≤ 8}

/-- The first region's data: the inputs at the entry contents, the hidden layer left in its buffer at every point, the row
    statistics left at the last. -/
def rd1 : RDat τ (Elt F) (HIx 1) ℕ UU ℕ cfg1 c where
  A w := V (dr (Pipeline.arrRef spec1 w))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = hid V
    | ⟨6, _⟩ => t.val = 48 → LseOf (hid V) (V (dr main_v7)) (V (dr main_v9)) X
  Φ n := phi1 V c n.val
  q _ := fullShare
  owed _ := 0
  recorded _ := rec0 (F := F) c

/-! ## The data of the second region -/

/-- The second region's data: the inputs at the entry contents, each block of the result computed from them. -/
def rd2 : RDat τ (Elt F) (HIx 1) ℕ UU ℕ cfg2 c where
  A w := V (dr (Pipeline.arrRef spec2 w))
  after w t Y X := match w with
    | ⟨0, _⟩ => X = Y
    | ⟨1, _⟩ => X = Y
    | ⟨2, _⟩ => X = Y
    | ⟨3, _⟩ => X = Y
    | ⟨4, _⟩ => OutOf (V (dr main_v10_0)) (V (dr main_v7)) (V (dr main_v9)) (V (dr main_v10_1)) t.val X
  Φ _ := Pipeline.scopedRest (Ix := HIx 1) (Name := ℕ) (U := UU) (Lvl := ℕ) (Val := Elt F) spec2 c
  q _ := fullShare
  owed _ := 0
  recorded _ := rec0 (F := F) c

/-! ## What the staging buffers hold when the body runs -/

section Finds

variable {cfg : Cfg sig Λ₀} {c : Dev nD} (rd : RDat τ (Elt F) (HIx 1) ℕ UU ℕ cfg c)

/-- An input fetched whole at the first point and never changed holds its array's block at every point. -/
theorem finds_const (w : Fin cfg.W) (C : (cfg.win w).block.Idx → Elt F (cfg.win w).elt)
    (h0 : ∀ t : Fin cfg.N, t.val = 0 → (cfg.win w).fetch t = true) (hC : ∀ t d, rd.fetched w t d = C)
    (hfl : ∀ t, (cfg.win w).flush t = false) (ha : ∀ t Y X, rd.after w t Y X → X = Y) :
    ∀ (n : ℕ) (hn : n < cfg.N) X, rd.Finds w ⟨n, hn⟩ X → X = C := by
  intro n
  induction n with
  | zero =>
    intro hn X h
    obtain ⟨d, rfl⟩ := (rd.finds_of_fetch (h0 ⟨0, hn⟩ rfl) X).mp h
    exact hC _ _
  | succ n ih =>
    intro hn X h
    by_cases hf : (cfg.win w).fetch ⟨n + 1, hn⟩ = true
    · obtain ⟨d, rfl⟩ := (rd.finds_of_fetch hf X).mp h
      exact hC _ _
    · rw [rd.finds_of_pos (by simpa using hf) (by simp)] at h
      rcases h with h | ⟨Y, hY, hX⟩
      · exact absurd h (by rw [hfl]; simp)
      · rw [ha _ _ _ hX]; exact ih (by omega) Y hY

end Finds

theorem coord1 : ∀ t : Fin cfg1.N, (cfg1.grid.coords t 0).val = t.val := by decide +kernel
theorem coord2 : ∀ t : Fin cfg2.N, (cfg2.grid.coords t 0).val = t.val := by decide +kernel
theorem cond1_iff : ∀ t : Fin grid1.N, k1_cond1 (grid1.coords t) = 1#1 ↔ t.val = 0 := by decide +kernel
theorem cond2_iff : ∀ t : Fin grid1.N, k1_cond2 (grid1.coords t) = 1#1 ↔ t.val = 48 := by decide +kernel
theorem idx10 : ∀ t : Fin grid1.N, win1_0.index t = ![0, 0] := by decide +kernel
theorem idx11 : ∀ t : Fin grid1.N, win1_1.index t = ![0, 0] := by decide +kernel
theorem idx12 : ∀ t : Fin grid1.N, win1_2.index t = ![0, 0] := by decide +kernel
theorem idx13 : ∀ t : Fin grid1.N, win1_3.index t = ![0, t.val] := by decide +kernel
theorem idx14 : ∀ t : Fin grid1.N, win1_4.index t = ![0, t.val] := by decide +kernel
theorem xs13 : ∀ t : Fin grid1.N, win1_3.xsize (grid1.coords t) = ![128, min 2048 (100000 - 2048 * t.val)] := by decide +kernel
theorem xs14 : ∀ t : Fin grid1.N, win1_4.xsize (grid1.coords t) = ![1, min 2048 (100000 - 2048 * t.val)] := by decide +kernel
theorem idx20 : ∀ t : Fin grid2.N, win2_0.index t = ![0, 0] := by decide +kernel
theorem idx21 : ∀ t : Fin grid2.N, win2_1.index t = ![0, t.val] := by decide +kernel
theorem idx22 : ∀ t : Fin grid2.N, win2_2.index t = ![0, t.val] := by decide +kernel
theorem idx23 : ∀ t : Fin grid2.N, win2_3.index t = ![0, 0] := by decide +kernel
theorem idx24 : ∀ t : Fin grid2.N, win2_4.index t = ![0, t.val] := by decide +kernel
theorem xs21 : ∀ t : Fin grid2.N, win2_1.xsize (grid2.coords t) = ![128, min 2048 (100000 - 2048 * t.val)] := by decide +kernel
theorem xs22 : ∀ t : Fin grid2.N, win2_2.xsize (grid2.coords t) = ![1, min 2048 (100000 - 2048 * t.val)] := by decide +kernel

theorem fetched10 (t d) : (rd1 V c).fetched 0 t d = V (dr main_v6) := by
  funext y
  unfold RDat.fetched Window.fill RDat.blockOf
  rw [dif_pos (show (cfg1.win 0).moved (cfg1.grid.coords t) y = true from rfl)]
  blk_ext [idx10]

theorem fetched11 (t d) : (rd1 V c).fetched 1 t d = V (dr main_v3) := by
  funext y
  unfold RDat.fetched Window.fill RDat.blockOf
  rw [dif_pos (show (cfg1.win 1).moved (cfg1.grid.coords t) y = true from rfl)]
  blk_ext [idx11]

theorem fetched12 (t d) : (rd1 V c).fetched 2 t d = V (dr main_v8) := by
  funext y
  unfold RDat.fetched Window.fill RDat.blockOf
  rw [dif_pos (show (cfg1.win 2).moved (cfg1.grid.coords t) y = true from rfl)]
  blk_ext [idx12]

theorem fetched20 (t d) : (rd2 V c).fetched 0 t d = V (dr main_v10_0) := by
  funext y
  unfold RDat.fetched Window.fill RDat.blockOf
  rw [dif_pos (show (cfg2.win 0).moved (cfg2.grid.coords t) y = true from rfl)]
  blk_ext [idx20]

theorem fetched23 (t d) : (rd2 V c).fetched 3 t d = V (dr main_v10_1) := by
  funext y
  unfold RDat.fetched Window.fill RDat.blockOf
  rw [dif_pos (show (cfg2.win 3).moved (cfg2.grid.coords t) y = true from rfl)]
  blk_ext [idx23]

theorem fetched13 (t : Fin cfg1.N) (d) : BlkW (V (dr main_v7)) t.val ((rd1 V c).fetched 3 t d) := by
  intro k j h
  unfold RDat.fetched Window.fill RDat.blockOf
  rw [dif_pos ((cfg1.win 3).moved_iff _ _ |>.mpr fun a => by
    show _ < win1_3.xsize (grid1.coords t) a
    rw [xs13]
    fin_cases a
    · exact k.isLt
    · show j.val < min 2048 (100000 - 2048 * t.val)
      omega)]
  blk_ext [idx13]

theorem fetched14 (t : Fin cfg1.N) (d) : BlkB (V (dr main_v9)) t.val ((rd1 V c).fetched 4 t d) := by
  intro j h
  unfold RDat.fetched Window.fill RDat.blockOf
  rw [dif_pos ((cfg1.win 4).moved_iff _ _ |>.mpr fun a => by
    show _ < win1_4.xsize (grid1.coords t) a
    rw [xs14]
    fin_cases a
    · exact Nat.one_pos
    · show j.val < min 2048 (100000 - 2048 * t.val)
      omega)]
  blk_ext [idx14]

theorem fetched21 (t : Fin cfg2.N) (d) : BlkW (V (dr main_v7)) t.val ((rd2 V c).fetched 1 t d) := by
  intro k j h
  unfold RDat.fetched Window.fill RDat.blockOf
  rw [dif_pos ((cfg2.win 1).moved_iff _ _ |>.mpr fun a => by
    show _ < win2_1.xsize (grid2.coords t) a
    rw [xs21]
    fin_cases a
    · exact k.isLt
    · show j.val < min 2048 (100000 - 2048 * t.val)
      omega)]
  blk_ext [idx21]

theorem fetched22 (t : Fin cfg2.N) (d) : BlkB (V (dr main_v9)) t.val ((rd2 V c).fetched 2 t d) := by
  intro j h
  unfold RDat.fetched Window.fill RDat.blockOf
  rw [dif_pos ((cfg2.win 2).moved_iff _ _ |>.mpr fun a => by
    show _ < win2_2.xsize (grid2.coords t) a
    rw [xs22]
    fin_cases a
    · exact Nat.one_pos
    · show j.val < min 2048 (100000 - 2048 * t.val)
      omega)]
  blk_ext [idx22]

end Data

end Cert.Proof.Id

end
-- ==== Proof.IdRegion.lean ====
/-
  The bodies' obligations: at every grid point, from buffers holding what the region's data lets them hold, each kernel's body
  leaves what the data says.
-/
module

public import proofs.«01_k».proof.Proof.IdData

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window)

variable {F : FTy → Type} [FloatOps F] [∀ e, Nonempty (Elt F e)]

local notation "𝕄" => MT nD τ sig (HIx 1) (Elt F) ℕ UU ℕ

section Body

variable (V : Valuation τ sig (Elt F)) (c : Dev nD)

theorem finds10 (t : Fin cfg1.N) (X) (h : (rd1 V c).Finds 0 t X) : X = V (dr main_v6) :=
  finds_const (rd1 V c) 0 (V (dr main_v6)) (fun t ht => (fetch1_0 t).mpr (by omega)) (fetched10 V c)
    (fun t => by simp [Window.flush]) (fun _ _ _ h => h) t.val t.isLt X h

theorem finds11 (t : Fin cfg1.N) (X) (h : (rd1 V c).Finds 1 t X) : X = V (dr main_v3) :=
  finds_const (rd1 V c) 1 (V (dr main_v3)) (fun t ht => (fetch1_1 t).mpr (by omega)) (fetched11 V c)
    (fun t => by simp [Window.flush]) (fun _ _ _ h => h) t.val t.isLt X h

theorem finds12 (t : Fin cfg1.N) (X) (h : (rd1 V c).Finds 2 t X) : X = V (dr main_v8) :=
  finds_const (rd1 V c) 2 (V (dr main_v8)) (fun t ht => (fetch1_2 t).mpr (by omega)) (fetched12 V c)
    (fun t => by simp [Window.flush]) (fun _ _ _ h => h) t.val t.isLt X h

theorem finds20 (t : Fin cfg2.N) (X) (h : (rd2 V c).Finds 0 t X) : X = V (dr main_v10_0) :=
  finds_const (rd2 V c) 0 (V (dr main_v10_0)) (fun t ht => (fetch2_0 t).mpr (by omega)) (fetched20 V c)
    (fun t => by simp [Window.flush]) (fun _ _ _ h => h) t.val t.isLt X h

theorem finds23 (t : Fin cfg2.N) (X) (h : (rd2 V c).Finds 3 t X) : X = V (dr main_v10_1) :=
  finds_const (rd2 V c) 3 (V (dr main_v10_1)) (fun t ht => (fetch2_3 t).mpr (by omega)) (fetched23 V c)
    (fun t => by simp [Window.flush]) (fun _ _ _ h => h) t.val t.isLt X h

theorem finds13 (t : Fin cfg1.N) (X) (h : (rd1 V c).Finds 3 t X) : BlkW (V (dr main_v7)) t.val X := by
  obtain ⟨d, rfl⟩ := ((rd1 V c).finds_of_fetch (fetch1_3 t) X).mp h
  exact fetched13 V c t d

theorem finds14 (t : Fin cfg1.N) (X) (h : (rd1 V c).Finds 4 t X) : BlkB (V (dr main_v9)) t.val X := by
  obtain ⟨d, rfl⟩ := ((rd1 V c).finds_of_fetch (fetch1_4 t) X).mp h
  exact fetched14 V c t d

theorem finds21 (t : Fin cfg2.N) (X) (h : (rd2 V c).Finds 1 t X) : BlkW (V (dr main_v7)) t.val X := by
  obtain ⟨d, rfl⟩ := ((rd2 V c).finds_of_fetch (fetch2_1 t) X).mp h
  exact fetched21 V c t d

theorem finds22 (t : Fin cfg2.N) (X) (h : (rd2 V c).Finds 2 t X) : BlkB (V (dr main_v9)) t.val X := by
  obtain ⟨d, rfl⟩ := ((rd2 V c).finds_of_fetch (fetch2_2 t) X).mp h
  exact fetched22 V c t d

theorem finds15 (t : Fin cfg1.N) (ht : t.val ≠ 0) (X) (h : (rd1 V c).Finds 5 t X) : X = hid V := by
  have hN : t.val < 49 := lt_of_lt_of_eq t.isLt N_1
  rw [(rd1 V c).finds_of_pos (by simp [Window.fetch]) ht] at h
  rcases h with h | ⟨Y, -, hX⟩
  · have := (flush1_5 _).mp h
    dsimp only at this
    omega
  · exact hX

theorem defs₀_row1 (t : Fin cfg1.N) : defs₀ (F := F) .tc cfg1.body (cfg1.bodyArgs t (cfg1.slots t)) = bodyAt1 t := by
  rfl

theorem defs₀_row2 (t : Fin cfg2.N) : defs₀ (F := F) .tc cfg2.body (cfg2.bodyArgs t (cfg2.slots t)) = bodyAt2 t := by
  rfl

/-- One point's step of the running maximum and sum. -/
theorem inv_step (t : Fin cfg1.N) {m s : S1024x1.Idx → Elt F .f32} {X4 : S128x2048.Idx → Elt F .bf16} {X5 : S1x2048.Idx → Elt F .f32}
    (hms : t.val ≠ 0 → Inv (hid V) (V (dr main_v7)) (V (dr main_v9)) t.val m s)
    (h4 : BlkW (V (dr main_v7)) t.val X4) (h5 : BlkB (V (dr main_v9)) t.val X5) :
    Inv (hid V) (V (dr main_v7)) (V (dr main_v9)) (t.val + 1) (mNext (grid1.coords t) (hid V) X4 X5 (mAt (grid1.coords t) m))
      (sNext (grid1.coords t) (hid V) X4 X5 (mAt (grid1.coords t) m) (sAt (grid1.coords t) s)) := by
  refine ⟨grid1.coords t, mAt (grid1.coords t) m, sAt (grid1.coords t) s, X4, X5, coord1 t, ?_, h4, h5, rfl, rfl⟩
  unfold mAt sAt
  by_cases h : t.val = 0
  · rw [if_pos ((cond1_iff t).mpr h), if_pos ((cond1_iff t).mpr h), h]; exact ⟨rfl, rfl⟩
  · rw [if_neg (fun h' => h ((cond1_iff t).mp h')), if_neg (fun h' => h ((cond1_iff t).mp h'))]; exact hms h

theorem body_obligation1 : (rd1 V c).BodyObligation (defs₀ (F := F)) 𝒱₀ none Set.univ := fun t Y hY => by
  have h0 := finds10 V c t _ (hY 0)
  have h1 := finds11 V c t _ (hY 1)
  have h2 := finds12 V c t _ (hY 2)
  have h3 := finds13 V c t _ (hY 3)
  have h4 := finds14 V c t _ (hY 4)
  have h5 := fun ht => finds15 V c t ht _ (hY 5)
  have hH : hAt (grid1.coords t) (Y 0) (Y 1) (Y 2) (Y 5) = hid V := by
    unfold hAt
    by_cases h : t.val = 0
    · rw [if_pos ((cond1_iff t).mpr h), h0, h1, h2]
    · rw [if_neg (fun h' => h ((cond1_iff t).mp h'))]; exact h5 h
  rw [bigSep_W1, bigSep_W1, defs₀_row1, show (rd1 V c).owesAt none t.succ = (rd1 V c).owesAt none t.castSucc from rfl,
    show (rd1 V c).Φ t.castSucc = phi1 V c t.val from rfl, show (rd1 V c).Φ t.succ = phi1 V c (t.val + 1) from rfl]
  unfold phi1
  iintro ⟨⟨%m, %s, %hms, Hm, Hs, HR⟩, HO, H0, H1, H2, H3, H4, H5, H6⟩
  have hinv := inv_step V t hms h3 h4
  iapply wp_stats c (grid1.coords t) _ _ _ _ _ _ _ _ _ _ _ _ _ _ (Memref.whole cc1_scratch0) _ (Memref.whole cc1_scratch1) _ (Y 0) (Y 1) (Y 2) (Y 3) (Y 4) (Y 5) (Y 6) m s
  isplitl [H0]; · iexact H0
  isplitl [H1]; · iexact H1
  isplitl [H2]; · iexact H2
  isplitl [H3]; · iexact H3
  isplitl [H4]; · iexact H4
  isplitl [H5]; · iexact H5
  isplitl [H6]; · iexact H6
  rw [owns_whole, owns_whole]
  isplitl [Hm]; · iexact Hm
  isplitl [Hs]; · iexact Hs
  rw [hH, owns_whole, owns_whole]
  iintro ⟨H0, H1, H2, H3, H4, H5, H6, Hm, Hs⟩
  isplitl [Hm Hs HR]
  · iexists _; iexists _; isplitr; swap
    · isplitl [Hm]; · iexact Hm
      isplitl [Hs]; · iexact Hs
      iexact HR
    · ipureintro; exact fun _ => hinv
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap
  · iexact H6
  · ipureintro
    show t.val = 48 → _
    intro h48
    rw [if_pos ((cond2_iff t).mpr h48)]
    rw [h48] at hinv
    exact ⟨_, _, hinv, rfl⟩

theorem body_obligation2 : (rd2 V c).BodyObligation (defs₀ (F := F)) 𝒱₀ none Set.univ := fun t Y hY => by
  have h0 := finds20 V c t _ (hY 0)
  have h1 := finds21 V c t _ (hY 1)
  have h2 := finds22 V c t _ (hY 2)
  have h3 := finds23 V c t _ (hY 3)
  rw [bigSep_W2, bigSep_W2, defs₀_row2, show (rd2 V c).owesAt none t.succ = (rd2 V c).owesAt none t.castSucc from rfl,
    show (rd2 V c).Φ t.succ = (rd2 V c).Φ t.castSucc from rfl]
  iintro ⟨HΦ, HO, H0, H1, H2, H3, H4⟩
  iapply wp_write c (grid2.coords t) _ _ _ _ _ _ _ _ _ _ (Y 0) (Y 1) (Y 2) (Y 3) (Y 4)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap
  · iexact H4
  · ipureintro
    show OutOf _ _ _ _ _ _
    exact ⟨_, _, h1, h2, by rw [h0, h3]⟩

end Body

end Cert.Proof.Id

end
-- ==== Proof.IdSegs.lean ====
/-
  The two TensorCore regions as segments of @main: entered with the windows' arrays at a valuation, left with the arrays the
  region computes at contents its data allows.
-/
module

public import proofs.«01_k».proof.Proof.IdRegion

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window)

variable {F : FTy → Type} [FloatOps F] [∀ e, Nonempty (Elt F e)]

local notation "𝕄" => MT nD τ sig (HIx 1) (Elt F) ℕ UU ℕ

/-- The one admissible choice: no pipeline prefetches a table. -/
abbrev adm : (p : Fin 2) → (pcfgs (F := F) p).Adm := fun p => (cfgs p).toPCfg_adm

/-- Every location of the result computed from some blocks of the weight and the bias. -/
def ResOf (H : S1024x128.Idx → Elt F .bf16) (W : S128x100000.Idx → Elt F .bf16) (B : S1x100000.Idx → Elt F .f32)
    (L : S1024x1.Idx → Elt F .f32) (R : S1024x100000.Idx → Elt F .f32) : Prop :=
  ∀ i : S1024x100000.Idx, ∃ (t : ℕ) (j : Fin 2048) (X : S1024x2048.Idx → Elt F .f32), (i 1).val = 2048 * t + j.val ∧ OutOf H W B L t X ∧ R i = X (ix2 (i 0) j)

section Segs

variable (V V' : Valuation τ sig (Elt F))

/-- Both regions' data. -/
def rdats : (p : Fin 2) → (c : Dev nD) → RDat τ (Elt F) (HIx 1) ℕ UU ℕ (Pipeline.pin (pcfgs (F := F)) adm p) c
  | ⟨0, _⟩ => fun c => rd1 V c
  | ⟨1, _⟩ => fun c => rd2 V' c

/-- The contents after the first region. -/
abbrev val1 (lse : S1024x1.Idx → Elt F .f32) : Valuation τ sig (Elt F) :=
  Function.update (Function.update V (dr main_v10_0) (hid V)) (dr main_v10_1) lse
/-- The contents after the second. -/
abbrev val2 (R : S1024x100000.Idx → Elt F .f32) : Valuation τ sig (Elt F) := Function.update V (dr main_v11) R

/-- What the TensorCore owes between the regions: nothing, its recorded waits below the launch's. -/
def owesQ (c : Dev nD) : sProp 𝕄 :=
  iprop(∃ W, ⌜(K (F := F)).WBelow (T c) W 8⌝ ∗ owes (c : Thread nD τ) (0 : CellTallies nD τ sig (HIx 1)) W)

variable {V}

theorem arrAt15 (c : Dev nD) (A) (h : (rd1 V c).ArrAt 5 cfg1.N A) : A = hid V := by
  obtain ⟨X, ⟨Y, -, hX⟩, hj⟩ := RDat.ArrAt.emb_eq_of_wholeAt h (t₀ := (⟨48, by decide +kernel⟩ : Fin cfg1.N)) (by decide +kernel)
  have hX' : X = hid V := hX
  funext j
  refine (hj j).trans ?_
  rw [hX']
  rfl

theorem arrAt16 (c : Dev nD) (A) (h : (rd1 V c).ArrAt 6 cfg1.N A) : LseOf (hid V) (V (dr main_v7)) (V (dr main_v9)) A := by
  obtain ⟨X, ⟨Y, -, hX⟩, hj⟩ := RDat.ArrAt.emb_eq_of_wholeAt h (t₀ := (⟨48, by decide +kernel⟩ : Fin cfg1.N)) (by decide +kernel)
  have hX' : LseOf (hid V) (V (dr main_v7)) (V (dr main_v9)) X := hX rfl
  have e : A = X := by funext j; exact hj j
  rw [e]; exact hX'

theorem arrAt24 (c : Dev nD) (A) (h : (rd2 V c).ArrAt 4 cfg2.N A) :
    ResOf (V (dr main_v10_0)) (V (dr main_v7)) (V (dr main_v9)) (V (dr main_v10_1)) A := by
  obtain ⟨X, hX, hA⟩ := h.exists_exact
  have e := hA (Function.update (fun _ _ _ => Classical.arbitrary _) 4 X) fun u _ _ => by rw [Function.update_self]
  intro i
  rw [e]
  refine Dat.arrAt_forall_of_covers ((rd2 V c).withAfter (Function.update (fun _ _ _ => Classical.arbitrary _) 4 X)) 4
    (fun (i : S1024x100000.Idx) v => ∃ (t : ℕ) (j : Fin 2048) (X : S1024x2048.Idx → Elt F .f32), (i 1).val = 2048 * t + j.val ∧ OutOf (V (dr main_v10_0)) (V (dr main_v7)) (V (dr main_v9)) (V (dr main_v10_1)) t X ∧ v = X (ix2 (i 0) j))
    (by decide +kernel) (fun t hf y => ?_) i
  obtain ⟨Y, -, hO⟩ := hX t t.isLt hf
  have hy : (y 1).val < 2048 := lt_of_lt_of_le (y 1).isLt (win2_4.xsize_le (grid2.coords t) 1)
  refine ⟨t.val, ⟨(y 1).val, hy⟩, X t, ?_, hO, ?_⟩
  · blk_simp [idx24]
    try simp
    try omega
  · rw [RDat.withAfter_after, Function.update_self]
    show X t _ = X t _
    congr 1
    funext a
    fin_cases a
    · apply Fin.ext
      show (y 0).val = _
      blk_simp [idx24]
      try simp
      exact congrFun (idx24 t) 0
    · rfl

omit V' in
variable (V) in
/-- The windows' arrays at the full share, as buffers held at a valuation that has their contents. -/
theorem arrays_held_at (V' : Valuation τ sig (Elt F)) (p : Fin 2) (kit : Pipeline.LaunchFacts (nD := nD) (τ := τ) cfgs p) (c : Dev nD)
    (hq : ∀ w, (rdats V V' p c).share w = fullShare)
    (G : (w : Fin (Pipeline.pin (pcfgs (F := F)) adm p).W) → Buf (Elt F) (((Pipeline.pin (pcfgs (F := F)) adm p).win w).arr.view.loc (c.tc : Thread nD τ)))
    (W : Valuation τ sig (Elt F)) (hG : ∀ w, G w = W (dr (Pipeline.arrRef (Pipeline.pin (pcfgs (F := F)) adm p).spec w))) :
    ((rdats V V' p c).arrays G : sProp 𝕄) = StableHlo.held (c.tc : Thread nD τ) (Pipeline.arrRefs (pcfgs (F := F) p).spec) W :=
  Pipeline.arrays_held (pcfgs (F := F)) adm (fun q c => (rdats V V' q c).withAfter fun _ _ _ => Classical.arbitrary _) p kit.toP c hq G W hG

/-- What the arrays may hold, gathered into one choice of contents. -/
theorem arraysAt_gather {cfg : Cfg sig Λ₀} {c : Dev nD} (rd : RDat τ (Elt F) (HIx 1) ℕ UU ℕ cfg c) (n : ℕ) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- Between the regions' points the core owes nothing. -/
theorem owesAt_of_owesQ {cfg : Cfg sig Λ₀} {c : Dev nD} (rd : RDat τ (Elt F) (HIx 1) ℕ UU ℕ cfg c) (n) (ho : rd.owed n = 0)
    (hr : rd.recorded n = rec0 (F := F) c) : owesQ (F := F) c ⊢ rd.owesAt none n := by
  unfold owesQ RDat.owesAt Pipeline.owesWithin RDat.bound
  rw [ho, hr]
  iintro ⟨%W, %hW, H⟩
  iexists W
  isplitr
  · ipureintro; exact fun p hp => Or.inl (hW p hp)
  iexact H

theorem owesQ_of_owesAt {cfg : Cfg sig Λ₀} {c : Dev nD} (rd : RDat τ (Elt F) (HIx 1) ℕ UU ℕ cfg c) (n) (ho : rd.owed n = 0)
    (hr : rd.recorded n = rec0 (F := F) c) : rd.owesAt none n ⊢ owesQ (F := F) c := by
  unfold owesQ RDat.owesAt Pipeline.owesWithin RDat.bound
  rw [ho, hr]
  iintro ⟨%W, %hW, H⟩
  iexists W
  isplitr
  · ipureintro
    intro p hp
    rcases hW hp with h | ⟨w, s, rfl⟩
    · exact h
    · exact Nat.zero_le _
  iexact H

set_option backward.isDefEq.respectTransparency.types false in
/-- The first region: the hidden layer and the row statistics computed. -/
def reg1 (L : GSem nD τ sig → Finset (HIx 1)) (lv : GSem nD τ sig → HIx 1 → ℕ) :
    Pipeline.RDat.RegionSeg (pcfgs (F := F)) adm (rdats V V') none (defs₀ (F := F)) 𝒱₀ L lv 0 where
  win := launch1.win.to₀
  block_pos := launch1.block_pos
  stage_whole := launch1.stage_whole
  K := PEmpty
  osem k := k.elim
  ho := Pipeline.OwnSemFacts.none _
  hbody c := body_obligation1 V c
  hwaits := Pipeline.RDat.hwaits_of_owed_zero _ _ _ _ L lv 0 fun _ _ => rfl
  pre c := iprop(StableHlo.held (c.tc : Thread nD τ) (Pipeline.arrRefs (pcfgs (F := F) 0).spec) V ∗ owesQ (F := F) c)
  post c := iprop(∃ lse, ⌜LseOf (hid V) (V (dr main_v7)) (V (dr main_v9)) lse⌝
    ∗ StableHlo.held (c.tc : Thread nD τ) (Pipeline.arrRefs (pcfgs (F := F) 0).spec) (val1 V lse) ∗ owesQ (F := F) c)
  X _ := BI.emp
  Y _ := BI.emp
  Z _ := BI.emp
  hentry c := by
    rw [Pipeline.ownSems0_none, Pipeline.prefHeld_of_none _ rfl,
      arrays_held_at V V' 0 launch1 c (fun w => by fin_cases w <;> rfl) (rdats V V' 0 c).A V (fun w => rfl)]
    iintro ⟨⟨Ha, HO⟩, -, -⟩
    imodintro
    isplitl [Ha]; · iexact Ha
    isplitr; · iempintro
    isplitl [HO]
    · iapply owesAt_of_owesQ (rd1 V c) 0 rfl rfl; iexact HO
    isplitr <;> iempintro
  hin c := by
    show _ ⊢ phi1 V c 0
    rw [Pipeline.prefHeld_of_none _ rfl]
    show iprop(_ ∗ _ ∗ Pipeline.scopedRest spec1 c) ⊢ _
    rw [scopedRest1_eq]
    unfold phi1 rest1
    iintro ⟨-, -, ⟨%m, Hm⟩, ⟨%s, Hs⟩, HR⟩
    iexists m; iexists s
    isplitr; · ipureintro; exact fun h => absurd rfl h
    isplitl [Hm]; · iexact Hm
    isplitl [Hs]; · iexact Hs
    iexact HR
  hout c := by
    show phi1 V c _ ⊢ iprop(_ ∗ _ ∗ Pipeline.scopedRest spec1 c)
    rw [Pipeline.ownSems0_none, scopedRest1_eq]
    unfold phi1 rest1
    iintro ⟨%m, %s, -, Hm, Hs, HR⟩
    isplitr; · iempintro
    isplitr; · iempintro
    isplitl [Hm]; · iexists m; iexact Hm
    isplitl [Hs]; · iexists s; iexact Hs
    iexact HR
  hexit c := by
    iintro ⟨Ha, HO, -, -⟩
    ihave Ha := arraysAt_gather (rdats V V' 0 c) (Pipeline.pin (pcfgs (F := F)) adm 0).N $$ Ha
    icases Ha with ⟨%A, %hA, Ha⟩
    imodintro
    have hA : ∀ w, (rd1 V c).ArrAt w cfg1.N (A w) := hA
    have hin : ∀ w, (cfg1.win w).isOut = false → A w = V (dr (Pipeline.arrRef spec1 w)) := fun w hw => by
      have := hA w
      rwa [RDat.ArrAt_in (rd1 V c) w hw] at this
    have hG : ∀ w : Fin 7, A w = val1 V (A 6) (dr (Pipeline.arrRef spec1 w)) := fun w => by
      fin_cases w
      · exact (hin 0 rfl).trans (by simp only [val1]; rw [Function.update_of_ne (by decide), Function.update_of_ne (by decide)])
      · exact (hin 1 rfl).trans (by simp only [val1]; rw [Function.update_of_ne (by decide), Function.update_of_ne (by decide)])
      · exact (hin 2 rfl).trans (by simp only [val1]; rw [Function.update_of_ne (by decide), Function.update_of_ne (by decide)])
      · exact (hin 3 rfl).trans (by simp only [val1]; rw [Function.update_of_ne (by decide), Function.update_of_ne (by decide)])
      · exact (hin 4 rfl).trans (by simp only [val1]; rw [Function.update_of_ne (by decide), Function.update_of_ne (by decide)])
      · exact (arrAt15 c _ (hA 5)).trans (by simp only [val1]; rw [Function.update_of_ne (by decide)]; exact (Function.update_self (dr main_v10_0) (hid V) V).symm)
      · exact (Function.update_self (dr main_v10_1) (A 6) (Function.update V (dr main_v10_0) (hid V))).symm
    iexists (A 6)
    isplitr; · ipureintro; exact arrAt16 c _ (hA 6)
    isplitl [Ha]
    · iapply Entails.of_eq (arrays_held_at V V' 0 launch1 c (fun w => by fin_cases w <;> rfl) A (val1 V (A 6)) hG)
      iexact Ha
    iapply owesQ_of_owesAt (rd1 V c) _ rfl rfl; iexact HO

set_option backward.isDefEq.respectTransparency.types false in
/-- The second region: the result computed. -/
def reg2 (L : GSem nD τ sig → Finset (HIx 1)) (lv : GSem nD τ sig → HIx 1 → ℕ) :
    Pipeline.RDat.RegionSeg (pcfgs (F := F)) adm (rdats V V') none (defs₀ (F := F)) 𝒱₀ L lv 1 where
  win := launch2.win.to₀
  block_pos := launch2.block_pos
  stage_whole := launch2.stage_whole
  K := PEmpty
  osem k := k.elim
  ho := Pipeline.OwnSemFacts.none _
  hbody c := body_obligation2 V' c
  hwaits := Pipeline.RDat.hwaits_of_owed_zero _ _ _ _ L lv 1 fun _ _ => rfl
  pre c := iprop(StableHlo.held (c.tc : Thread nD τ) (Pipeline.arrRefs (pcfgs (F := F) 1).spec) V' ∗ owesQ (F := F) c)
  post c := iprop(∃ R, ⌜ResOf (V' (dr main_v10_0)) (V' (dr main_v7)) (V' (dr main_v9)) (V' (dr main_v10_1)) R⌝
    ∗ StableHlo.held (c.tc : Thread nD τ) (Pipeline.arrRefs (pcfgs (F := F) 1).spec) (val2 V' R) ∗ owesQ (F := F) c)
  X _ := BI.emp
  Y _ := BI.emp
  Z _ := BI.emp
  hentry c := by
    rw [Pipeline.ownSems0_none, Pipeline.prefHeld_of_none _ rfl,
      arrays_held_at V V' 1 launch2 c (fun w => by fin_cases w <;> rfl) (rdats V V' 1 c).A V' (fun w => rfl)]
    iintro ⟨⟨Ha, HO⟩, -, -⟩
    imodintro
    isplitl [Ha]; · iexact Ha
    isplitr; · iempintro
    isplitl [HO]
    · iapply owesAt_of_owesQ (rd2 V' c) 0 rfl rfl; iexact HO
    isplitr <;> iempintro
  hin c := by
    rw [Pipeline.prefHeld_of_none _ rfl]
    show iprop(_ ∗ _ ∗ Pipeline.scopedRest spec2 c) ⊢ Pipeline.scopedRest spec2 c
    iintro ⟨-, -, H⟩
    iexact H
  hout c := by
    show Pipeline.scopedRest spec2 c ⊢ iprop(_ ∗ _ ∗ Pipeline.scopedRest spec2 c)
    rw [Pipeline.ownSems0_none]
    iintro H
    isplitr; · iempintro
    isplitr; · iempintro
    iexact H
  hexit c := by
    iintro ⟨Ha, HO, -, -⟩
    ihave Ha := arraysAt_gather (rdats V V' 1 c) (Pipeline.pin (pcfgs (F := F)) adm 1).N $$ Ha
    icases Ha with ⟨%A, %hA, Ha⟩
    imodintro
    have hA : ∀ w, (rd2 V' c).ArrAt w cfg2.N (A w) := hA
    have hin : ∀ w, (cfg2.win w).isOut = false → A w = V' (dr (Pipeline.arrRef spec2 w)) := fun w hw => by
      have := hA w
      rwa [RDat.ArrAt_in (rd2 V' c) w hw] at this
    have hG : ∀ w : Fin 5, A w = val2 V' (A 4) (dr (Pipeline.arrRef spec2 w)) := fun w => by
      fin_cases w
      · exact (hin 0 rfl).trans (by simp only [val2]; rw [Function.update_of_ne (by decide)])
      · exact (hin 1 rfl).trans (by simp only [val2]; rw [Function.update_of_ne (by decide)])
      · exact (hin 2 rfl).trans (by simp only [val2]; rw [Function.update_of_ne (by decide)])
      · exact (hin 3 rfl).trans (by simp only [val2]; rw [Function.update_of_ne (by decide)])
      · exact (Function.update_self (dr main_v11) (A 4) V').symm
    iexists (A 4)
    isplitr; · ipureintro; exact arrAt24 c _ (hA 4)
    isplitl [Ha]
    · iapply Entails.of_eq (arrays_held_at V V' 1 launch2 c (fun w => by fin_cases w <;> rfl) A (val2 V' (A 4)) hG)
      iexact Ha
    iapply owesQ_of_owesAt (rd2 V' c) _ rfl rfl; iexact HO

end Segs

end Cert.Proof.Id

end
-- ==== Proof.IdMain.lean ====
/-
  The run of the whole kernel: @main on the TensorCore (the host operations before the SparseCore call, the call, the host
  operations after it, the two regions), the launch's ghost state, and the run with what it leaves: the arguments kept and
  the result one of those the two regions' relations allow.
-/
module

public import proofs.«01_k».proof.Proof.IdSegs

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window)

variable {F : FTy → Type} [FloatOps F] [∀ e, Nonempty (Elt F e)]

local notation "𝕄" => MT nD τ sig (HIx 1) (Elt F) ℕ UU ℕ

open Idealize.ShloMosaic.StableHlo (seq after after_nil after_cons held held_sub_split held_congr launchContents nullary unary reshape)

/-! ## @main, in segments -/

/-- The host operations before the SparseCore call: the table and the first weight matrix padded, the indices flattened. -/
abbrev opsA : List (HloOp τ sig (Elt F)) :=
  [ nullary main_c (constantI S_ 32 0#32),
    StableHlo.TRef.unary (.of main_c : StableHlo.TRef sig ⟨S_, .i32⟩) (.of main_call0_v0) (sitofp .f32),
    StableHlo.TRef.binary (.of main_arg1 : StableHlo.TRef sig ⟨S100000x64, .f32⟩) (.of main_call0_v0 : StableHlo.TRef sig ⟨S_, .f32⟩) (.of main_v0)
      (fun x v => pad S100000x128 ![0, 0] ![0, 64] ![0, 0] x v pads_S100000x64_S100000x128_000_0640 h_S_),
    reshape main_arg2 main_v1 (rfl : (.f32 : EltTy) = .f32) shapeCasts_S1280x128_S20x64x128,
    nullary main_c_0 (constantI S_ 32 0#32),
    StableHlo.TRef.unary (.of main_c_0 : StableHlo.TRef sig ⟨S_, .i32⟩) (.of main_call1_v0) (sitofp .f32),
    StableHlo.TRef.binary (.of main_v1 : StableHlo.TRef sig ⟨S20x64x128, .f32⟩) (.of main_call1_v0 : StableHlo.TRef sig ⟨S_, .f32⟩) (.of main_v2)
      (fun x v => pad S20x128x128 ![0, 0, 0] ![0, 64, 0] ![0, 0, 0] x v pads_S20x64x128_S20x128x128_000_0640_000 h_S_),
    reshape main_v2 main_v3 (rfl : (.f32 : EltTy) = .f32) shapeCasts_S20x128x128_S2560x128,
    reshape main_arg0 main_v4 (rfl : (.i32 : EltTy) = .i32) shapeCasts_S1024x20_S20480 ]

/-- The host operations between the SparseCore call and the first region. -/
abbrev opsB : List (HloOp τ sig (Elt F)) :=
  [ reshape main_v5 main_v6 (rfl : (.f32 : EltTy) = .f32) shapeCasts_S20480x128_S1024x2560,
    unary main_arg4 main_v7 ((truncf .bf16 · bitsLt_bf16_f32) : (⟨S128x100000, .f32⟩ : BufTy).Contents (Elt F) → (⟨S128x100000, .bf16⟩ : BufTy).Contents (Elt F)),
    reshape main_arg3 main_v8 (rfl : (.f32 : EltTy) = .f32) shapeCasts_S128_S1x128,
    reshape main_arg5 main_v9 (rfl : (.f32 : EltTy) = .f32) shapeCasts_S100000_S1x100000 ]

/-- @main, as its segments. -/
theorem main_eq (d : Dev nD) : main (F := F) d = (seq opsA >>= fun _ => (K (F := F)).run d 0 >>= fun _ => seq opsB >>= fun _ =>
    Prog.lift (.customCall (SparseCore.inner (Pipeline.entry 0)) ()) >>= fun _ =>
    Prog.lift (.customCall (SparseCore.inner (Pipeline.entry 1)) ()) >>= fun _ => pure ⟨⟩) := rfl

theorem opsA_tc : (opsA (F := F)).Forall fun op => op.bufs ⊆ StableHlo.tcRefs τ sig :=
  ⟨StableHlo.nullary_bufs_sub .., StableHlo.unary_bufs_sub .., StableHlo.binary_bufs_sub .., StableHlo.reshape_bufs_sub ..,
      StableHlo.nullary_bufs_sub .., StableHlo.unary_bufs_sub .., StableHlo.binary_bufs_sub .., StableHlo.reshape_bufs_sub ..,
      StableHlo.reshape_bufs_sub ..⟩
theorem opsA_sub : ∀ op ∈ opsA (F := F), op.bufs ⊆ Pipeline.ucRefs τ sig := fun op hop =>
  Pipeline.sub_ucRefs op (List.forall_iff_forall_mem.mp opsA_tc op hop)
theorem opsB_tc : (opsB (F := F)).Forall fun op => op.bufs ⊆ StableHlo.tcRefs τ sig :=
  ⟨StableHlo.reshape_bufs_sub .., StableHlo.unary_bufs_sub .., StableHlo.reshape_bufs_sub .., StableHlo.reshape_bufs_sub ..⟩
theorem opsB_sub : ∀ op ∈ opsB (F := F), op.bufs ⊆ Pipeline.ucRefs τ sig := fun op hop =>
  Pipeline.sub_ucRefs op (List.forall_iff_forall_mem.mp opsB_tc op hop)
theorem opsA_fresh : ∀ op ∈ opsA (F := F), op.fresh = ∅ := by
  intro op h
  simp only [opsA, List.mem_cons, List.not_mem_nil, or_false] at h
  rcases h with rfl | rfl | rfl | rfl | rfl | rfl | rfl | rfl | rfl <;> rfl
theorem opsB_fresh : ∀ op ∈ opsB (F := F), op.fresh = ∅ := by
  intro op h
  simp only [opsB, List.mem_cons, List.not_mem_nil, or_false] at h
  rcases h with rfl | rfl | rfl | rfl <;> rfl

/-! ## What the buffers hold between the segments -/

variable (m : (ℓ : Loc nD τ sig) → Buf (Elt F) ℓ) (ρ : Dev nD → PrngReg)

/-- Before the SparseCore call. -/
def VA (d : Dev nD) : Valuation τ sig (Elt F) := after opsA (launchContents m d)
/-- The table the call gathers from, its row numbers, and what its result's buffer holds before it. -/
def XA (d : Dev nD) : Buf (Elt F) (xLoc d) := VA m d (dr main_v0)
def IA (d : Dev nD) : Buf (Elt F) (iLoc d) := VA m d (dr main_v4)
def OA (d : Dev nD) : Buf (Elt F) (oLoc d) := VA m d (dr main_v5)
/-- After it. -/
def VB (d : Dev nD) : Valuation τ sig (Elt F) := Function.update (VA m d) (dr main_v5) (G (XA m) (IA m) d)
/-- Before the regions. -/
def VC (d : Dev nD) : Valuation τ sig (Elt F) := after opsB (VB m d)

/-- The three buffers the SparseCore call is handed. -/
def scRefs : Finset (DevRef τ sig) := {dr main_v4, dr main_v0, dr main_v5}
theorem scRefs_sub : scRefs ⊆ Pipeline.ucRefs τ sig := by decide
theorem held_scRefs (d : Dev nD) (V : Valuation τ sig (Elt F)) :
    (held (d.tc : Thread nD τ) scRefs V : sProp 𝕄)
      = iprop((iLoc d ↦{fullShare} V (dr main_v4)) ∗ (xLoc d ↦{fullShare} V (dr main_v0)) ∗ (oLoc d ↦{fullShare} V (dr main_v5))) := by
  unfold held scRefs
  rw [SparseCore.bigSep_insert' (by decide), SparseCore.bigSep_insert' (by decide), bigSep_singleton]

theorem st_eq (d : Dev nD) : (bigSep Finset.univ fun c : Fin ((K (F := F)).nCore 0) => (P (XA m) (IA m) (OA m)).st 0 d c)
    = iprop((iLoc d ↦{fullShare} IA m d) ∗ (xLoc d ↦{fullShare} XA m d) ∗ (oLoc d ↦{fullShare} OA m d)) :=
  (whole_eq_cores (XA m) (IA m) d (OA m d)).symm
theorem dn_eq (d : Dev nD) : (bigSep Finset.univ fun c : Fin ((K (F := F)).nCore 0) => (P (XA m) (IA m) (OA m)).dn 0 d c)
    = iprop((iLoc d ↦{fullShare} IA m d) ∗ (xLoc d ↦{fullShare} XA m d) ∗ (oLoc d ↦{fullShare} G (XA m) (IA m) d)) :=
  (whole_eq_cores (XA m) (IA m) d (G (XA m) (IA m) d)).symm

/-! ## The launch's ghost state -/

theorem phinj : Function.Injective (Pipeline.cellOf (nD := nD) (τ := τ) (Pipeline.pin (pcfgs (F := F)) adm)) := cellOf_inj

/-- The launch element: the handshakes', the pipelines', the counters'. -/
def u₀ : UU :=
  ((initOf (K (F := F)).hsCells (K (F := F)).hsToks,
    initOf (Pipeline.cells (Pipeline.pin (pcfgs (F := F)) adm) phinj) (Pipeline.launchToks (Pipeline.pin (pcfgs (F := F)) adm) phinj)), 1)

/-- What a TensorCore starts with besides: the two pipelines' ghost state and duty tokens. -/
def Gd (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (XA m) (IA m) (OA m)).x q thr) := by
  unfold u₀
  iintro Hu
  ihave H := (ownU_pair (initOf (K (F := F)).hsCells (K (F := F)).hsToks,
    initOf (Pipeline.cells (Pipeline.pin (pcfgs (F := F)) adm) phinj) (Pipeline.launchToks (Pipeline.pin (pcfgs (F := F)) adm) phinj)) (1 : Counters)) $$ Hu
  icases H with ⟨HH, -⟩
  ihave H := (own_pair_emb embL (initOf (K (F := F)).hsCells (K (F := F)).hsToks)
    (initOf (Pipeline.cells (Pipeline.pin (pcfgs (F := F)) adm) phinj) (Pipeline.launchToks (Pipeline.pin (pcfgs (F := F)) adm) phinj))) $$ HH
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold Gd
    rw [bigSep_sep']
    isplitl [Hg] <;> iassumption
  rw [show (bigSep Finset.univ fun thr : Thread nD τ => bigSep Finset.univ fun q : Fin 1 => (P (XA m) (IA m) (OA m)).x q thr) = bigSep Finset.univ fun _ => iprop(emp) from
    bigSep_congr fun _ _ => bigSep_univ_of_subsingleton (0 : Fin 1), bigSep_none]
  iempintro

/-! ## @main's run -/

theorem sub1 : Pipeline.arrRefs (τ := τ) (pcfgs (F := F) 0).spec ⊆ Pipeline.ucRefs τ sig :=
  Pipeline.arrRefs_sub_ucRefs _ launch1.win.arr_unscoped
theorem sub2 : Pipeline.arrRefs (τ := τ) (pcfgs (F := F) 1).spec ⊆ Pipeline.ucRefs τ sig :=
  Pipeline.arrRefs_sub_ucRefs _ launch2.win.arr_unscoped

theorem mem10_0 : dr main_v10_0 ∈ Pipeline.arrRefs (τ := τ) (pcfgs (F := F) 0).spec :=
  Finset.mem_map_of_mem _ (Finset.mem_image_of_mem (Pipeline.arrRef spec1) (Finset.mem_univ (5 : Fin 7)))
theorem mem10_1 : dr main_v10_1 ∈ Pipeline.arrRefs (τ := τ) (pcfgs (F := F) 0).spec :=
  Finset.mem_map_of_mem _ (Finset.mem_image_of_mem (Pipeline.arrRef spec1) (Finset.mem_univ (6 : Fin 7)))
theorem mem11 : dr main_v11 ∈ Pipeline.arrRefs (τ := τ) (pcfgs (F := F) 1).spec :=
  Finset.mem_map_of_mem _ (Finset.mem_image_of_mem (Pipeline.arrRef spec2) (Finset.mem_univ (4 : Fin 5)))

theorem rest1_congr (d : Dev nD) (V : Valuation τ sig (Elt F)) (lse : S1024x1.Idx → Elt F .f32) :
    (held (d.tc : Thread nD τ) (Pipeline.ucRefs τ sig \ Pipeline.arrRefs (pcfgs (F := F) 0).spec) V : sProp 𝕄)
      = held (d.tc : Thread nD τ) (Pipeline.ucRefs τ sig \ Pipeline.arrRefs (pcfgs (F := F) 0).spec) (val1 V lse) := by
  refine held_congr _ fun b hb => ?_
  have hb := (Finset.mem_sdiff.mp hb).2
  unfold val1
  rw [Function.update_of_ne (show b ≠ dr main_v10_1 from fun h => hb (by rw [h]; exact mem10_1)),
    Function.update_of_ne (show b ≠ dr main_v10_0 from fun h => hb (by rw [h]; exact mem10_0))]

theorem rest2_congr (d : Dev nD) (V : Valuation τ sig (Elt F)) (R : S1024x100000.Idx → Elt F .f32) :
    (held (d.tc : Thread nD τ) (Pipeline.ucRefs τ sig \ Pipeline.arrRefs (pcfgs (F := F) 1).spec) V : sProp 𝕄)
      = held (d.tc : Thread nD τ) (Pipeline.ucRefs τ sig \ Pipeline.arrRefs (pcfgs (F := F) 1).spec) (val2 V R) := by
  refine held_congr _ fun b hb => ?_
  have hb := (Finset.mem_sdiff.mp hb).2
  unfold val2
  rw [Function.update_of_ne (show b ≠ dr main_v11 from fun h => hb (by rw [h]; exact mem11))]

/-- The relation the two regions leave between what they find and what they leave. -/
def Leaves (d : Dev nD) (lse : S1024x1.Idx → Elt F .f32) (R : S1024x100000.Idx → Elt F .f32) : Prop :=
  LseOf (hid (VC m d)) (VC m d (dr main_v7)) (VC m d (dr main_v9)) lse
    ∧ ResOf (hid (VC m d)) (VC m d (dr main_v7)) (VC m d (dr main_v9)) lse R

/-- What @main leaves the TensorCore's buffers at. -/
def FIN (d : Dev nD) : sProp 𝕄 :=
  iprop(∃ lse R, ⌜Leaves m d lse R⌝ ∗ held (d.tc : Thread nD τ) (Pipeline.ucRefs τ sig) (val2 (val1 (VC m d) lse) R))

/-- A region's call from @main, as the library's rule has it one table down. -/
theorem call_eq (p : Fin 2) {α : Type} (k : PUnit → Prog _ α) :
    ((Prog.lift (.customCall (SparseCore.inner (Pipeline.entry p)) ()) >>= k)
      : Prog (TpuEff nD τ sig (Elt F) (SparseCore.Sig (Pipeline.Sig Λ₀ (Fin 2) fun p => (pcfgs (F := F) p).Adm) 1) .tc) α)
    = (SparseCore.liftProg (Prog.lift (.customCall (Pipeline.entry p) ())) >>= k) := rfl

theorem resOf_cast (V : Valuation τ sig (Elt F)) (lse : S1024x1.Idx → Elt F .f32) (R : S1024x100000.Idx → Elt F .f32)
    (h : ResOf (val1 V lse (dr main_v10_0)) (val1 V lse (dr main_v7)) (val1 V lse (dr main_v9)) (val1 V lse (dr main_v10_1)) R) :
    ResOf (hid V) (V (dr main_v7)) (V (dr main_v9)) lse R := by
  have e0 : val1 V lse (dr main_v10_0) = hid V := by
    unfold val1; rw [Function.update_of_ne (by decide)]; exact Function.update_self (dr main_v10_0) (hid V) V
  have e1 : val1 V lse (dr main_v10_1) = lse := by
    unfold val1; exact Function.update_self (dr main_v10_1) lse (Function.update V (dr main_v10_0) (hid V))
  have e7 : val1 V lse (dr main_v7) = V (dr main_v7) := by
    unfold val1; rw [Function.update_of_ne (by decide), Function.update_of_ne (by decide)]
  have e9 : val1 V lse (dr main_v9) = V (dr main_v9) := by
    unfold val1; rw [Function.update_of_ne (by decide), Function.update_of_ne (by decide)]
  rwa [e0, e1, e7, e9] at h

/-- No bound is in force at @main. -/
theorem no_bound (p : Fin 2) : ∀ u ∈ (none : Option (𝒱₀.lift).V), (𝒱₀.lift).lt (Sum.inr ((Pipeline.pin (pcfgs (F := F)) adm p).tripCount + 1)) u :=
  fun _ hu => nomatch hu

set_option backward.isDefEq.respectTransparency.types false in
/-- The first region's call, from its arrays. -/
theorem wp_call1 (V : Valuation τ sig (Elt F)) (d : Dev nD) :
    iprop(boundary (d.tc : Thread nD τ) ∗ (held (d.tc : Thread nD τ) (Pipeline.arrRefs (pcfgs (F := F) 0).spec) V ∗ owesQ (F := F) d)
        ∗ levAts (K (F := F)).L (K (F := F)).lev ∗ Pipeline.cellsGhost (Pipeline.pin (pcfgs (F := F)) adm) EP 0 d
        ∗ Pipeline.toksInit (Pipeline.pin (pcfgs (F := F)) adm) EP 0 d)
      ⊢ wp frame (wpE (D (F := F)) 𝒱 (d.tc : Thread nD τ) none) Set.univ (Prog.lift (.customCall (Pipeline.entry 0) ()))
          fun _ => iprop(boundary (d.tc : Thread nD τ) ∗ (∃ lse, ⌜LseOf (hid V) (V (dr main_v7)) (V (dr main_v9)) lse⌝
            ∗ held (d.tc : Thread nD τ) (Pipeline.arrRefs (pcfgs (F := F) 0).spec) (val1 V lse) ∗ owesQ (F := F) d)) := by
  refine BIBase.Entails.trans ?_ (Pipeline.RDat.RegionSeg.wp (pcfgs (F := F)) adm (rdats V V) none phinj EP defs₀ 𝒱₀ (K (F := F)).L (K (F := F)).lev
    (reg1 (V := V) V (K (F := F)).L (K (F := F)).lev) d none (no_bound _) (α := PUnit) (fun _ => .ret ⟨⟩)
      (fun _ => iprop(boundary (d.tc : Thread nD τ) ∗ (reg1 (V := V) V (K (F := F)).L (K (F := F)).lev).post d)))
  iintro H
  isplitr
  · iintro H
    rw [wp_ret]
    imodintro
    iexact H
  iexact H

set_option backward.isDefEq.respectTransparency.types false in
/-- The second region's call, from its arrays. -/
theorem wp_call2 (V : Valuation τ sig (Elt F)) (d : Dev nD) :
    iprop(boundary (d.tc : Thread nD τ) ∗ (held (d.tc : Thread nD τ) (Pipeline.arrRefs (pcfgs (F := F) 1).spec) V ∗ owesQ (F := F) d)
        ∗ levAts (K (F := F)).L (K (F := F)).lev ∗ Pipeline.cellsGhost (Pipeline.pin (pcfgs (F := F)) adm) EP 1 d
        ∗ Pipeline.toksInit (Pipeline.pin (pcfgs (F := F)) adm) EP 1 d)
      ⊢ wp frame (wpE (D (F := F)) 𝒱 (d.tc : Thread nD τ) none) Set.univ (Prog.lift (.customCall (Pipeline.entry 1) ()))
          fun _ => iprop(boundary (d.tc : Thread nD τ) ∗ (∃ R, ⌜ResOf (V (dr main_v10_0)) (V (dr main_v7)) (V (dr main_v9)) (V (dr main_v10_1)) R⌝
            ∗ held (d.tc : Thread nD τ) (Pipeline.arrRefs (pcfgs (F := F) 1).spec) (val2 V R) ∗ owesQ (F := F) d)) := by
  refine BIBase.Entails.trans ?_ (Pipeline.RDat.RegionSeg.wp (pcfgs (F := F)) adm (rdats V V) none phinj EP defs₀ 𝒱₀ (K (F := F)).L (K (F := F)).lev
    (reg2 (V := V) V (K (F := F)).L (K (F := F)).lev) d none (no_bound _) (α := PUnit) (fun _ => .ret ⟨⟩)
      (fun _ => iprop(boundary (d.tc : Thread nD τ) ∗ (reg2 (V := V) V (K (F := F)).L (K (F := F)).lev).post d)))
  iintro H
  isplitr
  · iintro H
    rw [wp_ret]
    imodintro
    iexact H
  iexact H

/-- A region's call from @main, one table up. -/
theorem wp_up (p : Fin 2) (d : Dev nD) (Q : PUnit → sProp 𝕄) :
    wp frame (wpE (D (F := F)) 𝒱 (d.tc : Thread nD τ) none) Set.univ (Prog.lift (.customCall (Pipeline.entry p) ())) Q
      ⊢ wp frame (wpE ((K (F := F)).defs (D (F := F))) 𝒱 (SparseCore.T d) none) Set.univ
          (Prog.lift (.customCall (SparseCore.inner (Pipeline.entry p)) ())) Q :=
  (K (F := F)).wp_liftProg (D (F := F)) 𝒱 (SparseCore.T d) Set.univ none (Prog.lift (.customCall (Pipeline.entry p) ())) Q

/-- The two regions in order, from the buffers @main has before them. -/
theorem wp_regions (d : Dev nD) (Q : PUnit → sProp 𝕄) :
    iprop((iprop(boundary (SparseCore.T d : Thread nD τ) ∗ FIN m d ∗ owesQ (F := F) d) -∗ Q ⟨⟩)
        ∗ boundary (SparseCore.T d : Thread nD τ) ∗ held (d.tc : Thread nD τ) (Pipeline.ucRefs τ sig) (VC m d) ∗ owesQ (F := F) d
        ∗ levAts (K (F := F)).L (K (F := F)).lev ∗ Gd (F := F) d)
      ⊢ wp frame (wpE ((K (F := F)).defs (D (F := F))) 𝒱 (SparseCore.T d) none) Set.univ
          (Prog.lift (.customCall (SparseCore.inner (Pipeline.entry 0)) ()) >>= fun _ =>
            Prog.lift (.customCall (SparseCore.inner (Pipeline.entry 1)) ()) >>= fun _ => pure ⟨⟩) Q := by
  rw [wp_bind]
  unfold Gd
  rw [bigSep_univ_two, bigSep_univ_two]
  iintro ⟨Hk, Hb, Hh, HO, #Hlev, ⟨Hg0, Hg1⟩, Ht0, Ht1⟩
  ihave Hh' := Entails.of_eq (held_sub_split (d.tc : Thread nD τ) (sub1 (F := F)) (VC m d)) $$ Hh
  icases Hh' with ⟨Hh, Hr⟩
  ihave Hw := (wp_call1 (VC m d) d) $$ [Hb Hh HO Hg0 Ht0]
  · isplitl [Hb]; · iexact Hb
    isplitl [Hh HO]
    · isplitl [Hh] <;> iassumption
    isplitr; · iexact Hlev
    isplitl [Hg0] <;> iassumption
  ihave Hw' := (wp_up 0 d _) $$ Hw
  iapply (wp_wand_r)
  isplitl [Hw']; · iexact Hw'
  iintro %_ ⟨Hb, %lse, %hlse, Hh, HO⟩
  ihave Hr' := Entails.of_eq (rest1_congr d (VC m d) lse) $$ Hr
  icombine Hh Hr' as Hh
  ihave Hh' := Entails.of_eq (held_sub_split (d.tc : Thread nD τ) (sub1 (F := F)) (val1 (VC m d) lse)).symm $$ Hh
  ihave Hh2 := Entails.of_eq (held_sub_split (d.tc : Thread nD τ) (sub2 (F := F)) (val1 (VC m d) lse)) $$ Hh'
  icases Hh2 with ⟨Hh, Hr⟩
  rw [wp_bind]
  ihave Hw := (wp_call2 (val1 (VC m d) lse) d) $$ [Hb Hh HO Hg1 Ht1]
  · isplitl [Hb]; · iexact Hb
    isplitl [Hh HO]
    · isplitl [Hh] <;> iassumption
    isplitr; · iexact Hlev
    isplitl [Hg1] <;> iassumption
  ihave Hw' := (wp_up 1 d _) $$ Hw
  iapply (wp_wand_r)
  isplitl [Hw']; · iexact Hw'
  iintro %_ ⟨Hb, %R, %hR, Hh, HO⟩
  ihave Hr' := Entails.of_eq (rest2_congr d (val1 (VC m d) lse) R) $$ Hr
  icombine Hh Hr' as Hh
  ihave Hh' := Entails.of_eq (held_sub_split (d.tc : Thread nD τ) (sub2 (F := F)) (val2 (val1 (VC m d) lse) R)).symm $$ Hh
  rw [wp_pure]
  imodintro
  iapply Hk
  isplitl [Hb]; · iexact Hb
  isplitl [Hh']
  · unfold FIN
    iexists lse; iexists R
    isplitr
    · ipureintro; exact ⟨hlse, resOf_cast _ _ _ hR⟩
    iexact Hh'
  iexact HO

/-- What @main's buffers hold outside the call's three is what they held before it. -/
theorem restSc_congr (d : Dev nD) :
    (held (d.tc : Thread nD τ) (Pipeline.ucRefs τ sig \ scRefs) (VA m d) : sProp 𝕄)
      = held (d.tc : Thread nD τ) (Pipeline.ucRefs τ sig \ scRefs) (VB m d) := by
  refine held_congr _ fun b hb => ?_
  have hb := (Finset.mem_sdiff.mp hb).2
  unfold VB
  rw [Function.update_of_ne (show b ≠ dr main_v5 from fun h => hb (by rw [h]; decide))]

theorem held_scA (d : Dev nD) : (held (d.tc : Thread nD τ) scRefs (VA m d) : sProp 𝕄)
    = iprop((iLoc d ↦{fullShare} IA m d) ∗ (xLoc d ↦{fullShare} XA m d) ∗ (oLoc d ↦{fullShare} OA m d)) :=
  held_scRefs d (VA m d)
theorem held_scB (d : Dev nD) : (held (d.tc : Thread nD τ) scRefs (VB m d) : sProp 𝕄)
    = iprop((iLoc d ↦{fullShare} IA m d) ∗ (xLoc d ↦{fullShare} XA m d) ∗ (oLoc d ↦{fullShare} G (XA m) (IA m) d)) := by
  rw [held_scRefs]
  have e4 : VB m d (dr main_v4) = IA m d := by unfold VB; rw [Function.update_of_ne (by decide)]; rfl
  have e0 : VB m d (dr main_v0) = XA m d := by unfold VB; rw [Function.update_of_ne (by decide)]; rfl
  have e5 : VB m d (dr main_v5) = G (XA m) (IA m) d := by
    unfold VB; exact Function.update_self (dr main_v5) (G (XA m) (IA m) d) (VA m d)
  rw [e4, e0, e5]

/-- After its one call @main owes nothing, and what it does in between may be put back among its standing. -/
theorem owes_of_tcSt (d : Dev nD) : ((K (F := F)).tcSt EH d 1 : sProp 𝕄)
    ⊢ iprop(owesQ (F := F) d ∗ (owesQ (F := F) d -∗ (K (F := F)).tcSt EH d 1)) := by
  unfold SparseCore.Cfg.tcSt owesQ
  rw [(K (F := F)).Otc_end (N := 1) d (n := 1) le_rfl]
  iintro ⟨HO, Hst⟩
  isplitl [HO]; · iexact HO
  iintro HO
  isplitl [HO]; · iexact HO
  iexact Hst

/-- @main on device `d`'s TensorCore: its arguments kept, its result one the regions' relations allow. -/
theorem hmain (κ : GSem nD τ sig → ℕ) (d : Dev nD) :
    iprop((K (F := F)).ctx EH (P (XA m) (IA m) (OA m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d : Thread nD τ).loc b) : sProp 𝕄) = held (d.tc : Thread nD τ) (Pipeline.ucRefs τ sig) (launchContents m d)
    from Pipeline.unscopedBufs_held d (launchContents m d), main_eq]
  iintro ⟨#Hctx, Hst, ⟨Hb, Hh, Hts, -⟩, HG⟩
  iapply (StableHlo.wp_seq 𝒱 none Set.univ d (Pipeline.ucRefs τ sig) _ opsA opsA_sub opsA_fresh (launchContents m d)) $$ [Hb Hh]
  · isplitl [Hb]; · iexact Hb
    iexact Hh
  rw [show after opsA (launchContents m d) = VA m d from rfl]
  iintro ⟨Hb, Hh⟩
  ihave Hh' := Entails.of_eq (held_sub_split (d.tc : Thread nD τ) scRefs_sub (VA m d)) $$ Hh
  icases Hh' with ⟨Hh, Hr⟩
  ihave Hh' := Entails.of_eq (held_scA m d) $$ Hh
  rw [wp_bind]
  iapply ((K (F := F)).wp_run (D (F := F)) 𝒱 (EH := EH) (P := P (XA m) (IA m) (OA m)) κ d 0) $$ [-]
  isplitr; · iexact Hctx
  isplitl [Hst]; · iexact Hst
  isplitl [Hh']
  · rw [st_eq]; iexact Hh'
  rw [show ((0 : Fin 1).val + 1) = 1 from rfl]
  iintro ⟨Hst, Hdn⟩
  ihave Hdn' := (Entails.of_eq (dn_eq m d)) $$ Hdn
  ihave Hh' := (Entails.of_eq (held_scB m d).symm) $$ Hdn'
  ihave Hr' := (Entails.of_eq (restSc_congr m d)) $$ Hr
  icombine Hh' Hr' as Hh
  ihave Hh' := Entails.of_eq (held_sub_split (d.tc : Thread nD τ) scRefs_sub (VB m d)).symm $$ Hh
  iapply (StableHlo.wp_seq 𝒱 none Set.univ d (Pipeline.ucRefs τ sig) _ opsB opsB_sub opsB_fresh (VB m d)) $$ [Hb Hh']
  · isplitl [Hb]; · iexact Hb
    iexact Hh'
  rw [show after opsB (VB m d) = VC m d from rfl]
  iintro ⟨Hb, Hh⟩
  ihave Hst' := (owes_of_tcSt d) $$ Hst
  icases Hst' with ⟨HO, Hst⟩
  ihave Hlev := ((K (F := F)).ctx_levAts (EH := EH) (P := P (XA m) (IA m) (OA m)) κ) $$ Hctx
  iapply (wp_regions m d)
  isplitl [Hst Hts]
  · iintro ⟨Hb, HF, HO⟩
    isplitl [HO Hst]
    · iapply Hst; iexact HO
    isplitl [HF]; · iexact HF
    isplitl [Hb] <;> iassumption
  isplitl [Hb]; · iexact Hb
  isplitl [Hh]; · iexact Hh
  isplitl [HO]; · iexact HO
  isplitl [Hlev]; · iexact Hlev
  iexact HG

/-! ## What the run ends with -/

/-- The contents the run ends with on device `d`: every unscoped buffer's. -/
def fq (d : Dev nD) (s' : Phys nD τ sig (Elt F)) : Prop :=
  ∃ lse R, Leaves m d lse R ∧ ∀ b ∈ Pipeline.ucRefs τ sig, s'.mem.mem (d, b) = val2 (val1 (VC m d) lse) R b

theorem hfin (d : Dev nD) (s' : Phys nD τ sig (Elt F)) : iprop(FIN m d ∗ SI s') ⊢ (⌜fq m d s'⌝ : sProp 𝕄) := by
  unfold FIN held
  iintro ⟨⟨%lse, %R, %hl, Hh⟩, HSI⟩
  ihave H := (SI_pointsTo_bufs_agree (st := s') (c := d) (qs := fun _ => fullShare) (F := val2 (val1 (VC m d) lse) R) (Pipeline.ucRefs τ sig)) $$ [HSI Hh]
  · isplitl [HSI]; · iexact HSI
    iexact Hh
  icases H with %h
  ipureintro
  exact ⟨lse, R, hl, h⟩

/-- The run: from any launch memory whose flattened indices name rows of the table, the program comes back, every device's
    buffers as the regions' relations have them, every semaphore at zero. -/
theorem run_rel (hI : ListOK (IA m)) :
    θ_run (defs (F := F)) (threads (F := F)) ⟨m, fun _ => 0, ρ⟩ fun r =>
      (∀ d : Dev nD, ∃ lse R, Leaves m d lse R ∧ ∀ b ∈ Pipeline.ucRefs τ sig, r.2.mem (d, b) = val2 (val1 (VC m d) lse) R b)
        ∧ r.2.sem = fun _ => 0 :=
  SparseCore.Cfg.θ_run_sc_quiescent (K := K (F := F)) (D := D (F := F)) (𝒱 := 𝒱) (EH := EH) (P := P (XA m) (IA m) (OA m)) (A := ∅) facts v₀
    (fun q hq => match q with | 0 => nomatch hq)
    (fun q _ => match q with | 0 => tileObl (XA m) (OA m) facts hI)
    (fun q _ => match q with | 0 => SparseCore.Cfg.VecSplit.of_plain (vecSplit (XA m) (IA m) (OA m)))
    m ρ main (fun d => Gd (F := F) d) (FIN m) (u₀ (F := F)) (sep_elim_left.trans (hu₀ m)) (hmain m ρ) (fq m) (hfin m) _ (fun _ h hz => ⟨h, hz⟩)

end Cert.Proof.Id

end
-- ==== Proof.IdVals.lean ====
/-
  What the buffers hold at @main's segments, as terms of the arguments; the arguments unchanged at the end.
-/
module

public import proofs.«01_k».proof.Proof.IdMain

@[expose] public section

set_option maxRecDepth 16384

noncomputable section

namespace Cert.Proof.Id

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window)

variable {F : FTy → Type} [FloatOps F] [∀ e, Nonempty (Elt F e)]

local notation "𝕄" => MT nD τ sig (HIx 1) (Elt F) ℕ UU ℕ

open Idealize.ShloMosaic.StableHlo (seq after after_nil after_cons held launchContents nullary unary reshape)

section Vals

variable (V : Valuation τ sig (Elt F))

set_option maxHeartbeats 1000000

theorem opsA_v0 : after opsA V (dr main_v0)
    = pad S100000x128 ![0, 0] ![0, 64] ![0, 0] (V (dr main_arg1)) (sitofp .f32 (constantI S_ 32 0#32)) pads_S100000x64_S100000x128_000_0640 h_S_ := by
  simp only [opsA, StableHlo.TRef.binary, StableHlo.TRef.unary, StableHlo.TRef.toBuf, StableHlo.TRef.ofBuf, cast_eq]
  after_results_simp <;> rfl
theorem opsA_v3 : after opsA V (dr main_v3)
    = shapeCast S2560x128 (pad S20x128x128 ![0, 0, 0] ![0, 64, 0] ![0, 0, 0] (shapeCast S20x64x128 (V (dr main_arg2)) shapeCasts_S1280x128_S20x64x128)
        (sitofp .f32 (constantI S_ 32 0#32)) pads_S20x64x128_S20x128x128_000_0640_000 h_S_) shapeCasts_S20x128x128_S2560x128 := by
  simp only [opsA, StableHlo.TRef.binary, StableHlo.TRef.unary, StableHlo.TRef.toBuf, StableHlo.TRef.ofBuf, cast_eq]
  after_results_simp <;> rfl
theorem opsA_v4 : after opsA V (dr main_v4) = shapeCast S20480 (V (dr main_arg0)) shapeCasts_S1024x20_S20480 := by
  simp only [opsA, StableHlo.TRef.binary, StableHlo.TRef.unary, StableHlo.TRef.toBuf, StableHlo.TRef.ofBuf, cast_eq]
  after_results_simp <;> rfl
theorem opsA_arg0 : after opsA V (dr main_arg0) = V (dr main_arg0) := by
  simp only [opsA, StableHlo.TRef.binary, StableHlo.TRef.unary, StableHlo.TRef.toBuf, StableHlo.TRef.ofBuf, cast_eq]
  after_results_simp <;> rfl
theorem opsB_arg0 : after opsB V (dr main_arg0) = V (dr main_arg0) := by
  simp only [opsB]
  after_results_simp <;> rfl
theorem opsA_arg1 : after opsA V (dr main_arg1) = V (dr main_arg1) := by
  simp only [opsA, StableHlo.TRef.binary, StableHlo.TRef.unary, StableHlo.TRef.toBuf, StableHlo.TRef.ofBuf, cast_eq]
  after_results_simp <;> rfl
theorem opsB_arg1 : after opsB V (dr main_arg1) = V (dr main_arg1) := by
  simp only [opsB]
  after_results_simp <;> rfl
theorem opsA_arg2 : after opsA V (dr main_arg2) = V (dr main_arg2) := by
  simp only [opsA, StableHlo.TRef.binary, StableHlo.TRef.unary, StableHlo.TRef.toBuf, StableHlo.TRef.ofBuf, cast_eq]
  after_results_simp <;> rfl
theorem opsB_arg2 : after opsB V (dr main_arg2) = V (dr main_arg2) := by
  simp only [opsB]
  after_results_simp <;> rfl
theorem opsA_arg3 : after opsA V (dr main_arg3) = V (dr main_arg3) := by
  simp only [opsA, StableHlo.TRef.binary, StableHlo.TRef.unary, StableHlo.TRef.toBuf, StableHlo.TRef.ofBuf, cast_eq]
  after_results_simp <;> rfl
theorem opsB_arg3 : after opsB V (dr main_arg3) = V (dr main_arg3) := by
  simp only [opsB]
  after_results_simp <;> rfl
theorem opsA_arg4 : after opsA V (dr main_arg4) = V (dr main_arg4) := by
  simp only [opsA, StableHlo.TRef.binary, StableHlo.TRef.unary, StableHlo.TRef.toBuf, StableHlo.TRef.ofBuf, cast_eq]
  after_results_simp <;> rfl
theorem opsB_arg4 : after opsB V (dr main_arg4) = V (dr main_arg4) := by
  simp only [opsB]
  after_results_simp <;> rfl
theorem opsA_arg5 : after opsA V (dr main_arg5) = V (dr main_arg5) := by
  simp only [opsA, StableHlo.TRef.binary, StableHlo.TRef.unary, StableHlo.TRef.toBuf, StableHlo.TRef.ofBuf, cast_eq]
  after_results_simp <;> rfl
theorem opsB_arg5 : after opsB V (dr main_arg5) = V (dr main_arg5) := by
  simp only [opsB]
  after_results_simp <;> rfl
theorem opsB_v3 : after opsB V (dr main_v3) = V (dr main_v3) := by
  simp only [opsB]
  after_results_simp <;> rfl
theorem opsB_v6 : after opsB V (dr main_v6) = shapeCast S1024x2560 (V (dr main_v5)) shapeCasts_S20480x128_S1024x2560 := by
  simp only [opsB]
  after_results_simp <;> rfl
theorem opsB_v7 : after opsB V (dr main_v7) = truncf .bf16 (V (dr main_arg4) : FVec F S128x100000 .f32) bitsLt_bf16_f32 := by
  simp only [opsB]
  after_results_simp <;> rfl
theorem opsB_v8 : after opsB V (dr main_v8) = shapeCast S1x128 (V (dr main_arg3)) shapeCasts_S128_S1x128 := by
  simp only [opsB]
  after_results_simp <;> rfl
theorem opsB_v9 : after opsB V (dr main_v9) = shapeCast S1x100000 (V (dr main_arg5)) shapeCasts_S100000_S1x100000 := by
  simp only [opsB]
  after_results_simp <;> rfl

end Vals

variable (m : (ℓ : Loc nD τ sig) → Buf (Elt F) ℓ) (d : Dev nD)

/-- A device's arguments at the launch. -/
abbrev A0 : S1024x20.Idx → Elt F .i32 := m ((d.tc : Thread nD τ).loc main_arg0)
abbrev A1 : S100000x64.Idx → Elt F .f32 := m ((d.tc : Thread nD τ).loc main_arg1)
abbrev A2 : S1280x128.Idx → Elt F .f32 := m ((d.tc : Thread nD τ).loc main_arg2)
abbrev A3 : S128.Idx → Elt F .f32 := m ((d.tc : Thread nD τ).loc main_arg3)
abbrev A4 : S128x100000.Idx → Elt F .f32 := m ((d.tc : Thread nD τ).loc main_arg4)
abbrev A5 : S100000.Idx → Elt F .f32 := m ((d.tc : Thread nD τ).loc main_arg5)

/-- The padded table, the flattened indices. -/
theorem XA_eq : XA m d = pad S100000x128 ![0, 0] ![0, 64] ![0, 0] (A1 m d) (sitofp .f32 (constantI S_ 32 0#32)) pads_S100000x64_S100000x128_000_0640 h_S_ :=
  opsA_v0 (launchContents m d)
theorem IA_eq : IA m d = shapeCast S20480 (A0 m d) shapeCasts_S1024x20_S20480 := opsA_v4 (launchContents m d)

/-- The gathered rows, the padded first weight, the second weight, the biases, as the regions find them. -/
theorem VC_v6 : VC m d (dr main_v6) = shapeCast S1024x2560 (gathered (XA m d) (IA m d)) shapeCasts_S20480x128_S1024x2560 := by
  refine (opsB_v6 (VB m d)).trans ?_
  have e : VB m d (dr main_v5) = G (XA m) (IA m) d := by
    unfold VB; exact Function.update_self (dr main_v5) (G (XA m) (IA m) d) (VA m d)
  rw [e]
theorem VB_of_ne (b : Ref sig .tc) (h : dr b ≠ dr main_v5) : VB m d (dr b) = VA m d (dr b) := by
  unfold VB; rw [Function.update_of_ne h]
theorem VC_v3 : VC m d (dr main_v3) = shapeCast S2560x128 (pad S20x128x128 ![0, 0, 0] ![0, 64, 0] ![0, 0, 0] (shapeCast S20x64x128 (A2 m d) shapeCasts_S1280x128_S20x64x128)
        (sitofp .f32 (constantI S_ 32 0#32)) pads_S20x64x128_S20x128x128_000_0640_000 h_S_) shapeCasts_S20x128x128_S2560x128 :=
  (opsB_v3 (VB m d)).trans ((VB_of_ne m d main_v3 (by decide)).trans (opsA_v3 (launchContents m d)))
theorem VC_v7 : VC m d (dr main_v7) = truncf .bf16 (A4 m d : FVec F S128x100000 .f32) bitsLt_bf16_f32 := by
  refine (opsB_v7 (VB m d)).trans ?_
  rw [(VB_of_ne m d main_arg4 (by decide)).trans (opsA_arg4 (launchContents m d))]
theorem VC_v8 : VC m d (dr main_v8) = shapeCast S1x128 (A3 m d) shapeCasts_S128_S1x128 := by
  refine (opsB_v8 (VB m d)).trans ?_
  rw [(VB_of_ne m d main_arg3 (by decide)).trans (opsA_arg3 (launchContents m d))]
theorem VC_v9 : VC m d (dr main_v9) = shapeCast S1x100000 (A5 m d) shapeCasts_S100000_S1x100000 := by
  refine (opsB_v9 (VB m d)).trans ?_
  rw [(VB_of_ne m d main_arg5 (by decide)).trans (opsA_arg5 (launchContents m d))]
theorem end_arg0 (lse R) : val2 (val1 (VC m d) lse) R (dr main_arg0) = A0 m d := by
  unfold val2 val1
  rw [Function.update_of_ne (by decide), Function.update_of_ne (by decide), Function.update_of_ne (by decide)]
  exact (opsB_arg0 (VB m d)).trans ((VB_of_ne m d main_arg0 (by decide)).trans (opsA_arg0 (launchContents m d)))
theorem end_arg1 (lse R) : val2 (val1 (VC m d) lse) R (dr main_arg1) = A1 m d := by
  unfold val2 val1
  rw [Function.update_of_ne (by decide), Function.update_of_ne (by decide), Function.update_of_ne (by decide)]
  exact (opsB_arg1 (VB m d)).trans ((VB_of_ne m d main_arg1 (by decide)).trans (opsA_arg1 (launchContents m d)))
theorem end_arg2 (lse R) : val2 (val1 (VC m d) lse) R (dr main_arg2) = A2 m d := by
  unfold val2 val1
  rw [Function.update_of_ne (by decide), Function.update_of_ne (by decide), Function.update_of_ne (by decide)]
  exact (opsB_arg2 (VB m d)).trans ((VB_of_ne m d main_arg2 (by decide)).trans (opsA_arg2 (launchContents m d)))
theorem end_arg3 (lse R) : val2 (val1 (VC m d) lse) R (dr main_arg3) = A3 m d := by
  unfold val2 val1
  rw [Function.update_of_ne (by decide), Function.update_of_ne (by decide), Function.update_of_ne (by decide)]
  exact (opsB_arg3 (VB m d)).trans ((VB_of_ne m d main_arg3 (by decide)).trans (opsA_arg3 (launchContents m d)))
theorem end_arg4 (lse R) : val2 (val1 (VC m d) lse) R (dr main_arg4) = A4 m d := by
  unfold val2 val1
  rw [Function.update_of_ne (by decide), Function.update_of_ne (by decide), Function.update_of_ne (by decide)]
  exact (opsB_arg4 (VB m d)).trans ((VB_of_ne m d main_arg4 (by decide)).trans (opsA_arg4 (launchContents m d)))
theorem end_arg5 (lse R) : val2 (val1 (VC m d) lse) R (dr main_arg5) = A5 m d := by
  unfold val2 val1
  rw [Function.update_of_ne (by decide), Function.update_of_ne (by decide), Function.update_of_ne (by decide)]
  exact (opsB_arg5 (VB m d)).trans ((VB_of_ne m d main_arg5 (by decide)).trans (opsA_arg5 (launchContents m d)))

theorem mem_uc (b : Ref sig .tc) (h : b.isScoped = false) : dr b ∈ Pipeline.ucRefs τ sig :=
  Finset.mem_filter.mpr ⟨StableHlo.devRef_mem_tcRefs b, fun h' => Bool.false_ne_true (h.symm.trans h')⟩

variable (ρ : Dev nD → PrngReg)

/-- The flattened indices name rows when the indices do. -/
theorem listOK (hA : ∀ d j, (A0 m d j).toNat < 100000) : ListOK (IA m) := by
  intro d j
  rw [IA_eq]
  exact hA d _

/-- The run: the arguments unchanged, the result as the two regions' relations have it, every semaphore at zero. -/
theorem run_args (hA : ∀ d j, (A0 m d j).toNat < 100000) :
    θ_run (defs (F := F)) (threads (F := F)) ⟨m, fun _ => 0, ρ⟩ fun r =>
      (∀ d : Dev nD, (∃ lse, Leaves m d lse (r.2.mem ((d.tc : Thread nD τ).loc main_v11)))
        ∧ r.2.mem ((d.tc : Thread nD τ).loc main_arg0) = A0 m d
        ∧ r.2.mem ((d.tc : Thread nD τ).loc main_arg1) = A1 m d
        ∧ r.2.mem ((d.tc : Thread nD τ).loc main_arg2) = A2 m d
        ∧ r.2.mem ((d.tc : Thread nD τ).loc main_arg3) = A3 m d
        ∧ r.2.mem ((d.tc : Thread nD τ).loc main_arg4) = A4 m d
        ∧ r.2.mem ((d.tc : Thread nD τ).loc main_arg5) = A5 m d)
        ∧ r.2.sem = fun _ => 0 :=
  (θ_run (defs (F := F)) _ _).mono (fun r h => ⟨fun d => by
    obtain ⟨lse, R, hl, hb⟩ := h.1 d
    refine ⟨⟨lse, ?_⟩, (hb _ (mem_uc main_arg0 rfl)).trans (end_arg0 m d lse R), (hb _ (mem_uc main_arg1 rfl)).trans (end_arg1 m d lse R),
      (hb _ (mem_uc main_arg2 rfl)).trans (end_arg2 m d lse R), (hb _ (mem_uc main_arg3 rfl)).trans (end_arg3 m d lse R),
      (hb _ (mem_uc main_arg4 rfl)).trans (end_arg4 m d lse R), (hb _ (mem_uc main_arg5 rfl)).trans (end_arg5 m d lse R)⟩
    have e : r.2.mem ((d.tc : Thread nD τ).loc main_v11) = R :=
      (hb _ (mem_uc main_v11 rfl)).trans (by unfold val2; exact Function.update_self (dr main_v11) R (val1 (VC m d) lse))
    rw [e]; exact hl, h.2⟩) (run_rel m ρ (listOK m hA))

end Cert.Proof.Id

end
-- ==== Proof.Pre.lean ====
/-
  What the two preconditions say: every index names a row of the table (`in_range`), and besides every float argument is
  finite (`in_range_finite`).
-/
module

public import proofs.«01_k».proof.Defs
public import Idealize.ShloMosaic.Lib.ReduceAll
public import Idealize.ShloMosaic.Lib.WordArith
public import proofs.«01_k».proof.Proof.Gen.Pre_in_range
public import proofs.«01_k».proof.Proof.Gen.Pre_in_range_finite

@[expose] public section

noncomputable section

namespace Cert.Proof.Pre

open Idealize.ShloMosaic

/-- A conjunction of two bits. -/
theorem and_one (a b : BitVec 1) : IntOp.andi a b = 1#1 ↔ a = 1#1 ∧ b = 1#1 := by revert a b; decide

/-- A word at least 0 and below 100000, signed, is below 100000 read unsigned. -/
theorem word_lt (v : BitVec 32) (h : IntOp.andi (IntOp.cmpi .sge v 0#32) (IntOp.cmpi .slt v 100000#32) = 1#1) : v.toNat < 100000 := by
  have hb (p : Bool) : (BitVec.ofBool p = 1#1) ↔ p = true := by cases p <;> decide
  obtain ⟨h1, h2⟩ := (and_one _ _).1 h
  simp only [IntOp.cmpi, hb, BitVec.sle_eq_decide, BitVec.slt_eq_decide, decide_eq_true_eq, BitVec.toInt_eq_toNat_cond,
    BitVec.toNat_ofNat, Nat.reducePow, Nat.reduceMod] at h1 h2
  omega

/-- `in_range`: every index is below 100000. -/
theorem in_range {F : FTy → Type} [FloatOps F] {a0 : IVec Cert.Pre_in_range.S1024x20 32} {a1 a2 a3 a4 a5}
    (h : Cert.Pre_in_range.fn (F := F) a0 a1 a2 a3 a4 a5 = fun _ => 1#1) : ∀ j, (a0 j).toNat < 100000 := by
  intro j
  have e := congrFun h (fun k => nomatch k)
  exact word_lt _ (Host.reduce_andi_all _ _ _ _ _ e j)

/-- A number whose absolute value is below infinity is neither infinity. -/
theorem finite_of (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor <;> rintro rfl <;> simp [Ideal.cmp] at h

/-- A conjunction over an array's elements of «the absolute value is below infinity»: no element is an infinity. -/
theorem all_finite {s : Shape} (x : FVec Ideal s .f32) (hb : Cert.Pre_in_range_finite.S_.BroadcastsInDim s (![] : Fin 0 → Fin s.rank))
    {ax : List (Fin s.rank)} (r : s.ReducesTo ax Cert.Pre_in_range_finite.S_) (hu) (j)
    (h : Host.reduce IntOp.andi (cmpf .olt (Host.absf x) (broadcastInDim s (![] : Fin 0 → Fin s.rank) hb (constant Cert.Pre_in_range_finite.S_ .f32 0x7F800000#32)))
      (constantI Cert.Pre_in_range_finite.S_ 1 1#1) r hu j = 1#1) : ∀ i, x i ≠ ⊤ ∧ x i ≠ ⊥ :=
  fun i => finite_of _ (Host.reduce_andi_all _ _ _ _ j h i)

/-- `in_range_finite`: every index is below 100000, and no float argument holds an infinity. -/
theorem in_range_finite {a0 : IVec Cert.Pre_in_range_finite.S1024x20 32} {a1 a2 a3 a4 a5}
    (h : Cert.Pre_in_range_finite.fn (F := Ideal) a0 a1 a2 a3 a4 a5 = fun _ => 1#1) :
    (∀ j, (a0 j).toNat < 100000) ∧ (∀ j, a1 j ≠ ⊤ ∧ a1 j ≠ ⊥) ∧ (∀ j, a2 j ≠ ⊤ ∧ a2 j ≠ ⊥) ∧ (∀ j, a3 j ≠ ⊤ ∧ a3 j ≠ ⊥)
      ∧ (∀ j, a4 j ≠ ⊤ ∧ a4 j ≠ ⊥) ∧ (∀ j, a5 j ≠ ⊤ ∧ a5 j ≠ ⊥) := by
  have e := congrFun h (fun k => nomatch k)
  obtain ⟨e, e5⟩ := (and_one _ _).1 e
  obtain ⟨e, e4⟩ := (and_one _ _).1 e
  obtain ⟨e, e3⟩ := (and_one _ _).1 e
  obtain ⟨e, e2⟩ := (and_one _ _).1 e
  obtain ⟨e0, e1⟩ := (and_one _ _).1 e
  exact ⟨fun j => word_lt _ (Host.reduce_andi_all _ _ _ _ _ e0 j), all_finite a1 _ _ _ _ e1, all_finite a2 _ _ _ _ e2,
    all_finite a3 _ _ _ _ e3, all_finite a4 _ _ _ _ e4, all_finite a5 _ _ _ _ e5⟩

end Cert.Proof.Pre

end
-- ==== Proof.Frames.lean ====
/-
  The frames: each program runs to the end with its arguments unchanged and every semaphore at zero. The kernel's two
  readings by their run theorems; the reference's, a host program without semaphores, by its generated run.
-/
module

public import proofs.«01_k».proof.Proof.IdVals
public import proofs.«01_k».proof.Proof.BitVals
public import proofs.«01_k».proof.Proof.Pre
public import proofs.«01_k».proof.Proof.Gen.ReferenceIdeal.Run

@[expose] public section

noncomputable section

namespace Cert.Proof

open Idealize.ShloMosaic

instance (e : EltTy) : Nonempty (Elt Ideal e) := by cases e <;> exact ⟨default⟩

/-- The kernel's frame, where every index names a row. -/
theorem frame_kernel : quiescent_Kernel := by
  intro m g hP
  exact (θ_run (Cert.Kernel.defs (F := Bits)) _ _).mono (fun r h => ⟨fun c => (h.1 c).2, h.2⟩)
    (Bit.run_args m g fun d => Pre.in_range (hP d))

/-- The idealized kernel's frame, where every index names a row. -/
theorem frame_ideal : quiescent_KernelIdeal := by
  intro m g hP
  exact (θ_run (Cert.KernelIdeal.defs (F := Ideal)) _ _).mono (fun r h => ⟨fun c => (h.1 c).2, h.2⟩)
    (Id.run_args m g fun d => Pre.in_range (hP d))

/-- The idealized kernel's frame, where besides the float arguments are finite. -/
theorem frame_ideal_finite : quiescent_KernelIdeal_pre_in_range_finite := by
  intro m g hP
  exact (θ_run (Cert.KernelIdeal.defs (F := Ideal)) _ _).mono (fun r h => ⟨fun c => (h.1 c).2, h.2⟩)
    (Id.run_args m g fun d => (Pre.in_range_finite (hP d)).1)

/-- The reference's frame. -/
theorem frame_reference : quiescent_ReferenceIdeal := by
  intro m g _
  exact (θ_run (Cert.ReferenceIdeal.defs (F := Ideal)) _ _).mono (fun r h => ⟨fun c => (h c).2, sem_eq_zero_of_no_sems rfl _⟩)
    (Cert.ReferenceIdeal.Value.run m g)

/-- The reference's frame, where every index names a row and the float arguments are finite. -/
theorem frame_reference_finite : quiescent_ReferenceIdeal_pre_in_range_finite :=
  fun m g _ => frame_reference m g trivial

end Cert.Proof

end
-- ==== Proof.Softmax.lean ====
/-
  The mathematics of a log-softmax over the extended reals: the sum of exponentials kept against a running maximum, one tile
  of columns at a time, ends at the logarithm of the sum of exponentials, whatever real number it is kept against.
-/
module

public import Idealize.ShloMosaic.PureOps.Ideal.Laws

@[expose] public section

noncomputable section

namespace Cert.Proof.Softmax

open Idealize.ShloMosaic

/-- An extended real that is a real. -/
def IsR (x : EReal) : Prop := ∃ r : ℝ, x = (r : EReal)

theorem IsR.of {x : EReal} (h : x ≠ ⊤ ∧ x ≠ ⊥) : IsR x := ⟨x.toReal, (EReal.coe_toReal h.1 h.2).symm⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.zero : IsR 0 := ⟨0, rfl⟩
theorem IsR.max {x y : EReal} (hx : IsR x) (hy : IsR y) : IsR (max x y) := by
  rcases max_choice x y with h | h <;> rw [h] <;> assumption
/-- A finite sum of reals is real. -/
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The embedding of the reals passes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many numbers, none of them `+∞`, is not `+∞`. -/
theorem fold_ne_top {ι : Type} (s : Finset ι) (f : ι → EReal) (h : ∀ i ∈ s, f i ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a (Finset.mem_insert_self a s)
    · exact ih fun i hi => h i (Finset.mem_insert_of_mem hi)

/-- The greatest of finitely many reals, at least one, is real. -/
theorem fold_real {ι : Type} (s : Finset ι) (f : ι → EReal) (h : ∀ i ∈ s, IsR (f i)) (hs : s.Nonempty) : IsR (s.fold max ⊥ f) := by
  refine IsR.of ⟨fold_ne_top s f fun i hi => ?_, fun e => ?_⟩
  · obtain ⟨r, e⟩ := h i hi; rw [e]; exact EReal.coe_ne_top r
  · obtain ⟨i, hi⟩ := hs
    obtain ⟨r, er⟩ := h i hi
    have hle : f i ≤ s.fold max ⊥ f := Finset.le_fold_max _ |>.mpr (Or.inr ⟨i, hi, le_rfl⟩)
    rw [e, er] at hle
    exact EReal.coe_ne_bot r (le_bot_iff.mp hle)

/-- A real against a number that is not `+∞`: the greater is real. -/
theorem max_real (μ : ℝ) (y : EReal) (hy : y ≠ ⊤) : IsR (max (μ : EReal) y) := by
  refine IsR.of ⟨?_, fun e => ?_⟩
  · rcases max_choice (μ : EReal) y with e | e <;> rw [e]
    · exact EReal.coe_ne_top μ
    · exact hy
  · exact EReal.coe_ne_bot μ (le_bot_iff.mp (e ▸ le_max_left _ _))

/-- The sum of exponentials of the first `n` columns against `μ`; a column past `N` counts nothing. -/
def part (N : ℕ) (l : ℕ → ℝ) (n : ℕ) (μ : ℝ) : ℝ := ∑ c ∈ Finset.range n, if c < N then Real.exp (l c - μ) else 0

/-- Changing what the exponentials are taken against multiplies their sum. -/
theorem part_shift (N : ℕ) (l : ℕ → ℝ) (n : ℕ) (μ ν : ℝ) : part N l n μ * Real.exp (μ - ν) = part N l n ν := by
  unfold part
  rw [Finset.sum_mul]
  refine Finset.sum_congr rfl fun c _ => ?_
  split
  · rw [← Real.exp_add]; congr 1; ring
  · rw [zero_mul]

/-- One tile's step: a real running maximum and the sum so far against it give the next ones. -/
theorem step (N : ℕ) (l : ℕ → ℝ) (n w : ℕ) (μ : ℝ) (x : Fin w → EReal)
    (hx : ∀ j, x j = if n + j.val < N then ((l (n + j.val) : ℝ) : EReal) else ⊥) (m' : EReal)
    (hm : m' = max (μ : EReal) (Finset.univ.fold max ⊥ x)) :
    ∃ ν : ℝ, m' = (ν : EReal) ∧ ((part N l n μ : ℝ) : EReal) * Ideal.exp ((μ : EReal) - m') + ∑ j, Ideal.exp (x j - m') = ((part N l (n + w) ν : ℝ) : EReal) := by
  obtain ⟨ν, hν⟩ : IsR m' := hm ▸ max_real μ _ (fold_ne_top _ _ fun j _ => by
    rw [hx]; split
    · exact EReal.coe_ne_top _
    · exact bot_ne_top)
  refine ⟨ν, hν, ?_⟩
  have e1 : ∀ j, Ideal.exp (x j - m') = (((if n + j.val < N then Real.exp (l (n + j.val) - ν) else 0) : ℝ) : EReal) := by
    intro j
    rw [hx, hν]
    split
    · rw [← EReal.coe_sub, Ideal.exp_coe]
    · rw [EReal.bot_sub, Ideal.exp_bot]; rfl
  rw [Finset.sum_congr rfl fun j _ => e1 j, ← coe_sum, hν, ← EReal.coe_sub, Ideal.exp_coe, ← EReal.coe_mul, part_shift, ← EReal.coe_add]
  congr 1
  unfold part
  rw [Finset.sum_range_add, Finset.sum_range fun j => if n + j < N then Real.exp (l (n + j) - ν) else 0]

/-- The sum over all the columns, as a sum over the columns there are. -/
theorem part_all (N : ℕ) (l : ℕ → ℝ) (n : ℕ) (h : N ≤ n) (μ : ℝ) : part N l n μ = ∑ c : Fin N, Real.exp (l c.val - μ) := by
  unfold part
  rw [← Finset.sum_filter, show (Finset.range n).filter (· < N) = Finset.range N by ext c; simp; omega,
    Finset.sum_range fun c => Real.exp (l c - μ)]

/-- The logarithm of the sum against `μ`, added to `μ`, is the logarithm of the sum of the exponentials themselves. -/
theorem log_sum {N : ℕ} [NeZero N] (l : Fin N → ℝ) (μ : ℝ) :
    μ + Real.log (∑ c, Real.exp (l c - μ)) = Real.log (∑ c, Real.exp (l c)) := by
  have e : ∑ c, Real.exp (l c) = Real.exp μ * ∑ c, Real.exp (l c - μ) := by
    rw [Finset.mul_sum]
    refine Finset.sum_congr rfl fun c _ => ?_
    rw [← Real.exp_add]; congr 1; ring
  have hp : 0 < ∑ c, Real.exp (l c - μ) := Finset.sum_pos (fun c _ => Real.exp_pos _) Finset.univ_nonempty
  rw [e, Real.log_mul (Real.exp_pos μ).ne' hp.ne', Real.log_exp]

theorem log_pos {N : ℕ} [NeZero N] (l : Fin N → ℝ) (μ : ℝ) :
    Ideal.log ((∑ c, Real.exp (l c - μ) : ℝ) : EReal) = ((Real.log (∑ c, Real.exp (l c - μ)) : ℝ) : EReal) := by
  have hp : 0 < ∑ c, Real.exp (l c - μ) := Finset.sum_pos (fun c _ => Real.exp_pos _) Finset.univ_nonempty
  rw [Ideal.log_coe, if_neg (not_le.mpr hp)]

/-- The statistics the kernel keeps of a row are the logarithm of its sum of exponentials. -/
theorem lse_eq {N : ℕ} [NeZero N] (l : ℕ → ℝ) (n : ℕ) (h : N ≤ n) (μ : ℝ) :
    (μ : EReal) + Ideal.log ((part N l n μ : ℝ) : EReal) = ((Real.log (∑ c : Fin N, Real.exp (l c.val)) : ℝ) : EReal) := by
  rw [part_all N l n h, log_pos (fun c : Fin N => l c.val), ← EReal.coe_add, log_sum fun c : Fin N => l c.val]

/-- The reference's log-softmax of a row of reals, against the row's maximum: the number less the logarithm of the row's sum
    of exponentials. -/
theorem ref_eq {N : ℕ} [NeZero N] (z : Fin N → EReal) (l : Fin N → ℝ) (hz : ∀ c, z c = (l c : EReal)) (M : EReal)
    (hM : M = max ⊥ (Finset.univ.fold max ⊥ z)) (c : Fin N) :
    (z c - M) - Ideal.log (0 + ∑ k, Ideal.exp (z k - M)) = (l c : EReal) - ((Real.log (∑ k, Real.exp (l k)) : ℝ) : EReal) := by
  obtain ⟨μ, e⟩ : IsR M := by
    rw [hM, max_eq_right bot_le]
    exact fold_real _ _ (fun i _ => ⟨l i, hz i⟩) Finset.univ_nonempty
  rw [zero_add, e, Finset.sum_congr rfl fun k _ => (show Ideal.exp (z k - (μ : EReal)) = ((Real.exp (l k - μ) : ℝ) : EReal) by
    rw [hz, ← EReal.coe_sub, Ideal.exp_coe]), ← coe_sum, log_pos, hz, ← EReal.coe_sub, ← EReal.coe_sub, ← EReal.coe_sub, ← log_sum l μ]
  congr 1
  ring

end Cert.Proof.Softmax

end
-- ==== Proof.IdStats.lean ====
/-
  The two TensorCore regions' numbers, read at an element over the extended reals.
-/
module

public import proofs.«01_k».proof.Proof.IdVals
public import proofs.«01_k».proof.Proof.Softmax
public import Idealize.ShloMosaic.Lib.Pointwise
public import Idealize.ShloMosaic.Lib.WordCmp

@[expose] public section

set_option maxRecDepth 16384

noncomputable section

namespace Cert.Proof.Id

open Cert.KernelIdeal Cert.KernelIdeal.Gen
open Idealize.ShloMosaic

/-- The pattern of `-∞`. -/
theorem neg_inf : Ideal.ofBits FTy.f32 0xFF800000#32 = ⊥ := by simp [Ideal.ofBits, Ideal.ieee]

/-- The masked logit of a tile's column: the column's own number inside the vocabulary, `-∞` past it. -/
theorem pay7_at (i : grid1.Coords) (h : S1024x128.Idx → EReal) (X4 : S128x2048.Idx → EReal) (X5 : S1x2048.Idx → EReal) (r : Fin 1024) (j : Fin 2048) :
    k1_pay7 (F := Ideal) i h X4 X5 (ix2 r j)
      = if 2048 * (i 0).val + j.val < 100000 then max ((∑ k : Fin 128, h (ix2 r k) * X4 (ix2 k j)) + X5 (ix2 0 j)) 0 else ⊥ := by
  pointwise [k1_pay7]
  have hi : (i 0).val < 49 := (i 0).isLt
  have e : IntOp.addi (Scalar.muli (BitVec.ofNat 32 (i 0).val) 2048#32) (BitVec.ofNat 32 j.val) = BitVec.ofNat 32 (2048 * (i 0).val + j.val) := by
    apply BitVec.eq_of_toNat_eq
    simp only [IntOp.addi, Scalar.muli, IntOp.muli, BitVec.toNat_add, BitVec.toNat_mul, BitVec.toNat_ofNat, Nat.reducePow, Nat.reduceMod]
    omega
  rw [e, WordCmp.cmpi_slt_ofNat (by simp only [Nat.reduceSub, Nat.reducePow]; omega) (by decide), neg_inf]
  by_cases hc : 2048 * (i 0).val + j.val < 100000 <;> simp [hc, Scalar.select]

/-- The next running maximum of a row: the greater of the last one and of the tile's. -/
theorem mNext_at (i : grid1.Coords) (h : S1024x128.Idx → EReal) (X4 : S128x2048.Idx → EReal) (X5 : S1x2048.Idx → EReal) (m : S1024x1.Idx → EReal) (r : Fin 1024) :
    mNext (F := Ideal) i h X4 X5 m (ix2 r 0) = max (m (ix2 r 0)) (Finset.univ.fold max ⊥ fun j : Fin 2048 => k1_pay7 (F := Ideal) i h X4 X5 (ix2 r j)) := by
  pointwise [mNext, k1_pay2, k1_pay8]
  rw [neg_inf]

/-- The next running sum of a row: the last one against the new maximum, and the tile's exponentials. -/
theorem sNext_at (i : grid1.Coords) (h : S1024x128.Idx → EReal) (X4 : S128x2048.Idx → EReal) (X5 : S1x2048.Idx → EReal) (m s : S1024x1.Idx → EReal) (r : Fin 1024) :
    sNext (F := Ideal) i h X4 X5 m s (ix2 r 0) = s (ix2 r 0) * Ideal.exp (m (ix2 r 0) - mNext (F := Ideal) i h X4 X5 m (ix2 r 0))
      + ∑ j : Fin 2048, Ideal.exp (k1_pay7 (F := Ideal) i h X4 X5 (ix2 r j) - mNext (F := Ideal) i h X4 X5 m (ix2 r 0)) := by
  pointwise [sNext, mNext, k1_pay1, k1_pay2, k1_pay9, k1_pay10]

/-- The statistics of a row: its maximum and the logarithm of its sum. -/
theorem pay3_at (m s : S1024x1.Idx → EReal) (r : Fin 1024) : k1_pay3 (F := Ideal) m s (ix2 r 0) = m (ix2 r 0) + Ideal.log (s (ix2 r 0)) := by
  pointwise [k1_pay3]

/-- The running maximum starts at zero. -/
theorem pay5_at (r : Fin 1024) : k1_pay5 (F := Ideal) (ix2 r 0) = 0 := by
  pointwise [k1_pay5]
/-- The running sum starts at zero. -/
theorem pay6_at (r : Fin 1024) : k1_pay6 (F := Ideal) (ix2 r 0) = 0 := by
  pointwise [k1_pay6]

/-- An element of the result: its logit less the row's statistics. -/
theorem out_at (h : S1024x128.Idx → EReal) (X2 : S128x2048.Idx → EReal) (X3 : S1x2048.Idx → EReal) (L : S1024x1.Idx → EReal) (r : Fin 1024) (j : Fin 2048) :
    k2_pay1 (F := Ideal) h X2 X3 L (ix2 r j) = max ((∑ k : Fin 128, h (ix2 r k) * X2 (ix2 k j)) + X3 (ix2 0 j)) 0 - L (ix2 r 0) := by
  pointwise [k2_pay1]

/-- An element of the hidden layer. -/
theorem hid_at (X : S1024x2560.Idx → EReal) (W : S2560x128.Idx → EReal) (B : S1x128.Idx → EReal) (r : Fin 1024) (k : Fin 128) :
    k1_pay4 (F := Ideal) X W B (ix2 r k) = max ((∑ q : Fin 2560, X (ix2 r q) * W (ix2 q k)) + B (ix2 0 k)) 0 := by
  pointwise [k1_pay4]

variable {H : S1024x128.Idx → EReal} {W : S128x100000.Idx → EReal} {B : S1x100000.Idx → EReal}

/-- The logit of a row at a column of the vocabulary. -/
def lgt (H : S1024x128.Idx → EReal) (W : S128x100000.Idx → EReal) (B : S1x100000.Idx → EReal) (r : Fin 1024) (c : Fin 100000) : EReal :=
  max ((∑ k : Fin 128, H (ix2 r k) * W (ix2 k c)) + B (ix2 0 c)) 0

/-- A tile's product at a column of the vocabulary is that column's logit. -/
theorem blk_lgt {t : ℕ} {X4 : S128x2048.Idx → EReal} {X5 : S1x2048.Idx → EReal} (h4 : BlkW (F := Ideal) W t X4) (h5 : BlkB (F := Ideal) B t X5)
    (r : Fin 1024) (j : Fin 2048) (h : 2048 * t + j.val < 100000) :
    max ((∑ k : Fin 128, H (ix2 r k) * X4 (ix2 k j)) + X5 (ix2 0 j)) 0 = lgt H W B r ⟨2048 * t + j.val, h⟩ := by
  unfold lgt
  rw [h5 j h]
  congr 2
  exact Finset.sum_congr rfl fun k _ => by rw [h4 k j h]

/-- After `t` tiles a row's maximum is a real, and its sum that of the exponentials of the columns seen, against it. -/
theorem inv_row (r : Fin 1024) (l : ℕ → ℝ) (hl : ∀ c (h : c < 100000), lgt H W B r ⟨c, h⟩ = ((l c : ℝ) : EReal)) :
    ∀ t m s, Inv (F := Ideal) H W B t m s → ∃ μ : ℝ, m (ix2 r 0) = (μ : EReal) ∧ s (ix2 r 0) = ((Softmax.part 100000 l (2048 * t) μ : ℝ) : EReal) := by
  intro t
  induction t with
  | zero =>
    rintro m s ⟨rfl, rfl⟩
    exact ⟨0, pay5_at r, (pay6_at r).trans (by simp [Softmax.part])⟩
  | succ t ih =>
    rintro m s ⟨i, m0, s0, X4, X5, hi, hI, h4, h5, rfl, rfl⟩
    obtain ⟨μ, hm, hs⟩ := ih m0 s0 hI
    obtain ⟨ν, hν, e⟩ := Softmax.step 100000 l (2048 * t) 2048 μ (fun j => k1_pay7 (F := Ideal) i H X4 X5 (ix2 r j)) (fun j => by
      show k1_pay7 (F := Ideal) i H X4 X5 (ix2 r j) = _
      rw [pay7_at, hi]
      by_cases hc : 2048 * t + j.val < 100000
      · rw [if_pos hc, if_pos hc, blk_lgt h4 h5 r j hc, hl]
      · rw [if_neg hc, if_neg hc]) (mNext (F := Ideal) i H X4 X5 m0 (ix2 r 0)) (by rw [mNext_at, hm])
    exact ⟨ν, hν, by rw [sNext_at, hs, hm, Nat.mul_succ]; exact e⟩

/-- The statistics left of a row of real logits: the logarithm of the sum of their exponentials. -/
theorem lse_row (r : Fin 1024) (l : ℕ → ℝ) (hl : ∀ c (h : c < 100000), lgt H W B r ⟨c, h⟩ = ((l c : ℝ) : EReal)) (L : S1024x1.Idx → EReal)
    (hL : LseOf (F := Ideal) H W B L) : L (ix2 r 0) = ((Real.log (∑ c : Fin 100000, Real.exp (l c.val)) : ℝ) : EReal) := by
  obtain ⟨m, s, hI, rfl⟩ := hL
  obtain ⟨μ, hm, hs⟩ := inv_row r l hl 49 m s hI
  rw [pay3_at, hm, hs]
  exact Softmax.lse_eq l _ (by decide) μ

/-- The result at an element of a row of real logits. -/
theorem res_row (r : Fin 1024) (l : ℕ → ℝ) (hl : ∀ c (h : c < 100000), lgt H W B r ⟨c, h⟩ = ((l c : ℝ) : EReal)) (L : S1024x1.Idx → EReal)
    (hL : LseOf (F := Ideal) H W B L) (R : S1024x100000.Idx → EReal) (hR : ResOf (F := Ideal) H W B L R) (c : Fin 100000) :
    R (ix2 r c) = ((l c.val : ℝ) : EReal) - ((Real.log (∑ c : Fin 100000, Real.exp (l c.val)) : ℝ) : EReal) := by
  obtain ⟨t, j, X, hc, ⟨X2, X3, h2, h3, rfl⟩, e⟩ := hR (ix2 r c)
  have hc : c.val = 2048 * t + j.val := hc
  have e : R (ix2 r c) = k2_pay1 (F := Ideal) H X2 X3 L (ix2 r j) := e
  rw [e, out_at, blk_lgt h2 h3 r j (hc ▸ c.isLt), hl, ← hc, lse_row r l hl L hL]

end Cert.Proof.Id

end
-- ==== Proof.Spec.lean ====
/-
  The classifier's numbers over the extended reals: the hidden layer as a sum over the twenty context words and the
  sixty-four lanes of each one's row, the logits, and that finite arguments make them real.
-/
module

public import Idealize.ShloMosaic.Lib.Pointwise
public import proofs.«01_k».proof.Proof.Softmax

@[expose] public section

noncomputable section

namespace Cert.Proof.Spec

open Idealize.ShloMosaic

/-- The arrays of the problem. -/
abbrev Ix := (⟨2, ![1024, 20]⟩ : Shape).Idx → BitVec 32
abbrev Emb := (⟨2, ![100000, 64]⟩ : Shape).Idx → EReal
abbrev Wt1 := (⟨2, ![1280, 128]⟩ : Shape).Idx → EReal
abbrev Bi1 := (⟨1, ![128]⟩ : Shape).Idx → EReal
abbrev Wt2 := (⟨2, ![128, 100000]⟩ : Shape).Idx → EReal
abbrev Bi2 := (⟨1, ![100000]⟩ : Shape).Idx → EReal

variable (a0 : Ix) (a1 : Emb) (a2 : Wt1) (a3 : Bi1) (a4 : Wt2) (a5 : Bi2)

/-- The row of the table that context word `c` of example `r` names. -/
def row (r : Fin 1024) (c : Fin 20) : Fin 100000 := ⟨(a0 (ix2 r c)).toNat % 100000, Nat.mod_lt _ (by decide)⟩

/-- The weight's row for lane `e` of context word `c`. -/
def lane (c : Fin 20) (e : Fin 64) : Fin 1280 := ⟨c.val * 64 + e.val, by omega⟩

/-- The hidden layer. -/
def hidden (r : Fin 1024) (k : Fin 128) : EReal :=
  max ((∑ c : Fin 20, ∑ e : Fin 64, a1 (ix2 (row a0 r c) e) * a2 (ix2 (lane c e) k)) + a3 (ix1 k)) 0

/-- The logits. -/
def logit (r : Fin 1024) (c : Fin 100000) : EReal :=
  max ((∑ k : Fin 128, hidden a0 a1 a2 a3 r k * a4 (ix2 k c)) + a5 (ix1 c)) 0

/-- Finite arguments have real logits. -/
theorem logit_real (h1 : ∀ j, a1 j ≠ ⊤ ∧ a1 j ≠ ⊥) (h2 : ∀ j, a2 j ≠ ⊤ ∧ a2 j ≠ ⊥) (h3 : ∀ j, a3 j ≠ ⊤ ∧ a3 j ≠ ⊥)
    (h4 : ∀ j, a4 j ≠ ⊤ ∧ a4 j ≠ ⊥) (h5 : ∀ j, a5 j ≠ ⊤ ∧ a5 j ≠ ⊥) (r : Fin 1024) (c : Fin 100000) :
    Softmax.IsR (logit a0 a1 a2 a3 a4 a5 r c) :=
  .max (.add (.sum _ _ fun k _ => .mul (.max (.add (.sum _ _ fun _ _ => .sum _ _ fun _ _ => .mul (.of (h1 _)) (.of (h2 _))) (.of (h3 _))) .zero)
    (.of (h4 _))) (.of (h5 _))) .zero

/-- The result: each logit less the logarithm of its row's sum of exponentials. -/
def result (r : Fin 1024) (c : Fin 100000) : EReal :=
  (((logit a0 a1 a2 a3 a4 a5 r c).toReal : ℝ) : EReal)
    - ((Real.log (∑ k : Fin 100000, Real.exp (logit a0 a1 a2 a3 a4 a5 r k).toReal) : ℝ) : EReal)

/-- A real is the real it is read as. -/
theorem coe_toReal {x : EReal} (h : Softmax.IsR x) : x = ((x.toReal : ℝ) : EReal) := by
  obtain ⟨r, rfl⟩ := h; rw [EReal.toReal_coe]

/-- A product over the padded context (128 lanes a word, those past the 64th zero) is the product over the context. -/
theorem padded_sum (x : Fin 20 → Fin 64 → EReal) (w : Fin 20 → Fin 64 → EReal) (f : Fin 2560 → EReal)
    (hf : ∀ (c : Fin 20) (e : Fin 128), f ⟨c.val * 128 + e.val, by omega⟩ = if h : e.val < 64 then x c ⟨e.val, h⟩ * w c ⟨e.val, h⟩ else 0) :
    ∑ q, f q = ∑ c, ∑ e, x c e * w c e := by
  rw [Fin.sum_univ_tiles 20 128 rfl f]
  refine Finset.sum_congr rfl fun c _ => ?_
  rw [Finset.sum_congr rfl fun e _ => hf c e, Fin.sum_univ_two_halves 64 64 rfl]
  have e1 : ∀ k : Fin 64, (if h : k.val < 64 then x c ⟨k.val, h⟩ * w c ⟨k.val, h⟩ else (0 : EReal)) = x c k * w c k := fun k => dif_pos k.isLt
  have e2 : ∀ k : Fin 64, (if h : 64 + k.val < 64 then x c ⟨64 + k.val, h⟩ * w c ⟨64 + k.val, h⟩ else (0 : EReal)) = 0 := fun k => dif_neg (by omega)
  show (∑ k : Fin 64, if h : k.val < 64 then x c ⟨k.val, h⟩ * w c ⟨k.val, h⟩ else (0 : EReal))
    + (∑ k : Fin 64, if h : 64 + k.val < 64 then x c ⟨64 + k.val, h⟩ * w c ⟨64 + k.val, h⟩ else (0 : EReal)) = _
  rw [Finset.sum_congr rfl fun k _ => e1 k, Finset.sum_congr rfl fun k _ => e2 k, Finset.sum_const_zero, add_zero]

end Cert.Proof.Spec

end
-- ==== Proof.IdHidden.lean ====
/-
  The kernel's hidden layer and logits are the classifier's: the padded lanes of the gathered rows and of the first weight
  add nothing to the product.
-/
module

public import proofs.«01_k».proof.Proof.IdStats
public import proofs.«01_k».proof.Proof.Spec

@[expose] public section

set_option maxRecDepth 16384

noncomputable section

namespace Cert.Proof.Id

open Cert.KernelIdeal Cert.KernelIdeal.Gen
open Idealize.ShloMosaic

variable (a0 : S1024x20.Idx → BitVec 32) (a1 : S100000x64.Idx → EReal) (a2 : S1280x128.Idx → EReal)

/-- The padding: the integer zero as a float. -/
theorem zero_word : FloatOps.sitofp (F := Ideal) FTy.f32 (0#32) = (0 : EReal) := by
  show (((0#32 : BitVec 32).toInt : ℝ) : EReal) = 0
  simp

/-- A lane of a gathered row: the table's inside its sixty-four lanes, zero past them. -/
theorem x_at (r : Fin 1024) (c : Fin 20) (e : Fin 128) :
    shapeCast S1024x2560 (gathered (F := Ideal) (pad S100000x128 ![0, 0] ![0, 64] ![0, 0] a1 (sitofp (F := Ideal) .f32 (constantI S_ 32 0#32)) pads_S100000x64_S100000x128_000_0640 h_S_)
        (shapeCast S20480 a0 shapeCasts_S1024x20_S20480)) shapeCasts_S20480x128_S1024x2560 (ix2 r ⟨c.val * 128 + e.val, by omega⟩)
      = if h : e.val < 64 then a1 (ix2 (Spec.row a0 r c) ⟨e.val, h⟩) else 0 := by
  pointwise [gathered]
  by_cases h : e.val < 64
  · refine (dif_pos ⟨Nat.mod_lt _ (Nat.succ_pos _), h⟩).trans ?_
    refine Eq.trans ?_ (dif_pos h).symm
    rfl
  · refine (dif_neg fun h' => h h'.2).trans ?_
    refine Eq.trans ?_ (dif_neg h).symm
    exact zero_word

/-- A row of the padded first weight: the weight's inside the word's sixty-four lanes, zero past them. -/
theorem w_at (c : Fin 20) (e : Fin 128) (k : Fin 128) :
    shapeCast S2560x128 (pad S20x128x128 ![0, 0, 0] ![0, 64, 0] ![0, 0, 0] (shapeCast S20x64x128 a2 shapeCasts_S1280x128_S20x64x128)
        (sitofp (F := Ideal) .f32 (constantI S_ 32 0#32)) pads_S20x64x128_S20x128x128_000_0640_000 h_S_) shapeCasts_S20x128x128_S2560x128
        (ix2 ⟨c.val * 128 + e.val, by omega⟩ k)
      = if h : e.val < 64 then a2 (ix2 (Spec.lane c ⟨e.val, h⟩) k) else 0 := by
  pointwise
  by_cases h : e.val < 64
  · rw [dif_pos h, dif_pos h]; rfl
  · rw [dif_neg h, dif_neg h, zero_word]

section Run

variable (m : (ℓ : Loc nD τ sig) → Buf (Elt Ideal) ℓ) (d : Dev nD)

/-- The hidden layer the first region leaves is the classifier's. -/
theorem hid_eq (r : Fin 1024) (k : Fin 128) :
    hid (F := Ideal) (VC m d) (ix2 r k) = Spec.hidden (A0 m d) (A1 m d) (A2 m d) (A3 m d) r k := by
  have e : hid (F := Ideal) (VC m d) (ix2 r k) = _ := hid_at (VC m d (dr main_v6)) (VC m d (dr main_v3)) (VC m d (dr main_v8)) r k
  rw [e]
  unfold Spec.hidden
  have eb : VC m d (dr main_v8) (ix2 (0 : Fin 1) k) = A3 m d (ix1 k) := by rw [VC_v8]; pointwise
  rw [eb]
  refine congrArg (fun s : EReal => max (s + A3 m d (ix1 k)) 0) ?_
  refine Spec.padded_sum (fun c e => A1 m d (ix2 (Spec.row (A0 m d) r c) e)) (fun c e => A2 m d (ix2 (Spec.lane c e) k)) _ fun c e => ?_
  have ex := x_at (A0 m d) (A1 m d) r c e
  rw [← XA_eq, ← IA_eq, ← VC_v6] at ex
  have ew := w_at (A2 m d) c e k
  rw [← VC_v3] at ew
  refine (congrArg₂ (fun a b : EReal => a * b) ex ew).trans ?_
  by_cases h : e.val < 64
  · rw [dif_pos h, dif_pos h, dif_pos h]
  · rw [dif_neg h, dif_neg h, dif_neg h, zero_mul]

/-- The logits of both regions are the classifier's. -/
theorem lgt_eq (r : Fin 1024) (c : Fin 100000) :
    lgt (hid (F := Ideal) (VC m d)) (VC m d (dr main_v7)) (VC m d (dr main_v9)) r c
      = Spec.logit (A0 m d) (A1 m d) (A2 m d) (A3 m d) (A4 m d) (A5 m d) r c := by
  unfold lgt Spec.logit
  have eb : VC m d (dr main_v9) (ix2 (0 : Fin 1) c) = A5 m d (ix1 c) := by rw [VC_v9]; pointwise
  have ew : ∀ k : Fin 128, VC m d (dr main_v7) (ix2 k c) = A4 m d (ix2 k c) := fun k => by rw [VC_v7]; pointwise
  rw [eb]
  refine congrArg (fun s : EReal => max (s + A5 m d (ix1 c)) 0) ?_
  exact Finset.sum_congr rfl fun k _ => by rw [hid_eq, ew]

/-- What the kernel leaves, of finite arguments: the classifier's result. -/
theorem result_eq (h1 : ∀ j, A1 m d j ≠ ⊤ ∧ A1 m d j ≠ ⊥) (h2 : ∀ j, A2 m d j ≠ ⊤ ∧ A2 m d j ≠ ⊥) (h3 : ∀ j, A3 m d j ≠ ⊤ ∧ A3 m d j ≠ ⊥)
    (h4 : ∀ j, A4 m d j ≠ ⊤ ∧ A4 m d j ≠ ⊥) (h5 : ∀ j, A5 m d j ≠ ⊤ ∧ A5 m d j ≠ ⊥)
    (lse : S1024x1.Idx → EReal) (R : S1024x100000.Idx → EReal) (h : Leaves (F := Ideal) m d lse R) (r : Fin 1024) (c : Fin 100000) :
    R (ix2 r c) = Spec.result (A0 m d) (A1 m d) (A2 m d) (A3 m d) (A4 m d) (A5 m d) r c := by
  have hl : ∀ c' (h' : c' < 100000), lgt (hid (F := Ideal) (VC m d)) (VC m d (dr main_v7)) (VC m d (dr main_v9)) r ⟨c', h'⟩
      = (((if h : c' < 100000 then (Spec.logit (A0 m d) (A1 m d) (A2 m d) (A3 m d) (A4 m d) (A5 m d) r ⟨c', h⟩).toReal else 0 : ℝ)) : EReal) := by
    intro c' h'
    rw [dif_pos h', lgt_eq]
    exact Spec.coe_toReal (Spec.logit_real _ _ _ _ _ _ h1 h2 h3 h4 h5 r _)
  have e := res_row r _ hl lse h.1 R h.2 c
  have es : ∀ k : Fin 100000, (if h : k.val < 100000 then (Spec.logit (A0 m d) (A1 m d) (A2 m d) (A3 m d) (A4 m d) (A5 m d) r ⟨k.val, h⟩).toReal else 0 : ℝ)
      = (Spec.logit (A0 m d) (A1 m d) (A2 m d) (A3 m d) (A4 m d) (A5 m d) r k).toReal := fun k => dif_pos k.isLt
  rw [e, es c, Finset.sum_congr rfl fun k _ => congrArg Real.exp (es k)]
  rfl

end Run

end Cert.Proof.Id

end
-- ==== Proof.RefValue.lean ====
/-
  The reference's result over the extended reals: its composed term, cut into the steps the program takes, is the
  classifier's result where every index names a row and the float arguments are finite.
-/
module

public import proofs.«01_k».proof.Proof.Spec
public import proofs.«01_k».proof.Proof.Gen.ReferenceIdeal.Run
public import Idealize.ShloMosaic.Lib.Pointwise
public import Idealize.ShloMosaic.Lib.WordCmp
public import Idealize.ShloMosaic.Lib.ReduceAll

@[expose] public section

set_option maxRecDepth 16384

noncomputable section

namespace Cert.Proof.Ref

open Cert.ReferenceIdeal Cert.ReferenceIdeal.Gen
open Idealize.ShloMosaic

variable (a0 : IVec S1024x20 32) (a1 : FVec Ideal S100000x64 .f32) (a2 : FVec Ideal S1280x128 .f32) (a3 : FVec Ideal S128 .f32)
  (a4 : FVec Ideal S128x100000 .f32) (a5 : FVec Ideal S100000 .f32)

/-- The index words, those below zero counted from the table's end. -/
def wrapped : IVec S1024x20 32 :=
  select (cmpi .slt a0 (broadcastInDim S1024x20 ![] bcast_S_S1024x20 (constantI S_ 32 0#32)))
    (addi a0 (broadcastInDim S1024x20 ![] bcast_S_S1024x20 (constantI S_ 32 100000#32))) a0

/-- The same words with a last axis of one. -/
def starts : IVec S1024x20x1 32 := broadcastInDim S1024x20x1 ![0, 1] bcast_S1024x20_S1024x20x1_0_1 (wrapped a0)

/-- Which words name a row of the table. -/
def named : IVec S1024x20 1 :=
  Host.reduce IntOp.andi (andi (cmpi .sge (starts a0) (broadcastInDim S1024x20x1 ![] bcast_S_S1024x20x1 (constantI S_ 32 0#32)))
    (cmpi .sle (starts a0) (broadcastInDim S1024x20x1 ![0, 1, 2] bcast_S1x1x1_S1024x20x1_0_1_2 (broadcastInDim S1x1x1 ![2] bcast_S1_S1x1x1_2 (constantI S1 32 99999#32)))))
    (constantI S_ 1 1#1) reducesTo_S1024x20x1_S1024x20_d2 h_S_

/-- The table's rows at the words. -/
def taken : FVec Ideal S1024x20x64 .f32 := Host.gather gather_S100000x64_S1024x20x1_S1024x20x64_2_0_n_n_0_2_164 a1 (starts a0)

/-- The context: the rows side by side. -/
def context : FVec Ideal S1024x1280 .f32 :=
  shapeCast _ (select (broadcastInDim S1024x20x64 ![0, 1] bcast_S1024x20_S1024x20x64_0_1 (named a0)) (taken a0 a1)
    (broadcastInDim S1024x20x64 ![] bcast_S_S1024x20x64 (constant S_ .f32 0x7FC00000#32))) shapeCasts_S1024x20x64_S1024x1280

/-- The hidden layer. -/
def hiddenT : FVec Ideal S1024x128 .f32 :=
  maximumf (addf (Host.dotGeneral dot_S1024x1280_S1280x128_S1024x128_1_0_0_1_n_n none (context a0 a1) a2)
    (broadcastInDim S1024x128 ![0, 1] bcast_S1x128_S1024x128_0_1 (broadcastInDim S1x128 ![1] bcast_S128_S1x128_1 a3)))
    (broadcastInDim S1024x128 ![] bcast_S_S1024x128 (constant S_ .f32 0x00000000#32))

/-- The logits. -/
def logitT : FVec Ideal S1024x100000 .f32 :=
  maximumf (addf (Host.dotGeneral dot_S1024x128_S128x100000_S1024x100000_1_0_0_1_n_n none (hiddenT a0 a1 a2 a3) a4)
    (broadcastInDim S1024x100000 ![0, 1] bcast_S1x100000_S1024x100000_0_1 (broadcastInDim S1x100000 ![1] bcast_S100000_S1x100000_1 a5)))
    (broadcastInDim S1024x100000 ![] bcast_S_S1024x100000 (constant S_ .f32 0x00000000#32))

/-- The rows' maxima. -/
def top (z : FVec Ideal S1024x100000 .f32) : FVec Ideal S1024 .f32 :=
  maximumf (broadcastInDim S1024 ![] bcast_S_S1024 (constant S_ .f32 0xFF800000#32))
    (Host.reduce FloatOps.maximumf z (constant S_ .f32 0xFF800000#32) reducesTo_S1024x100000_S1024_d1 h_S_)

/-- The logits less their row's maximum. -/
def shifted (z : FVec Ideal S1024x100000 .f32) : FVec Ideal S1024x100000 .f32 :=
  subf z (broadcastInDim S1024x100000 ![0, 1] bcast_S1024x1_S1024x100000_0_1 (broadcastInDim S1024x1 ![0] bcast_S1024_S1024x1_0 (top z)))

/-- The logarithm of the softmax. -/
def logSoftmax (z : FVec Ideal S1024x100000 .f32) : FVec Ideal S1024x100000 .f32 :=
  subf (shifted z) (broadcastInDim S1024x100000 ![0, 1] bcast_S1024x1_S1024x100000_0_1 (Host.log (broadcastInDim S1024x1 ![0] bcast_S1024_S1024x1_0
    (Host.reduceAdd (Host.exp (shifted z)) (constant S_ .f32 0x00000000#32) reducesTo_S1024x100000_S1024_d1 h_S_))))

/-- The program's result is the logarithm of the softmax of the logits. -/
theorem res_eq (m : (ℓ : Loc nD τ sig) → Buf (Elt Ideal) ℓ) (c : Dev nD) :
    Value.res_main_v12 (F := Ideal) m c = logSoftmax (logitT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))) := by
  unfold Value.res_main_v12 logSoftmax shifted top logitT hiddenT context taken named starts wrapped
  rfl

/-- The gather at an element: the row the start word names, held inside the table. -/
theorem gather_at (x : FVec Ideal S100000x64 .f32) (idx : IVec S1024x20x1 32) (r : Fin 1024) (c : Fin 20) (e : Fin 64) :
    Host.gather gather_S100000x64_S1024x20x1_S1024x20x64_2_0_n_n_0_2_164 x idx (ix3 r c e)
      = x (ix2 ⟨min (idx (ix3 r c 0)).toInt.toNat 99999, by omega⟩ e) := by
  unfold Host.gather
  congr 1
  funext a
  refine Fin.ext ?_
  show GatherDims.start _ (ix3 r c e) idx a + GatherDims.batchCoord _ (ix3 r c e) a + GatherDims.offCoord _ (ix3 r c e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S100000x64.rank) ∈ gather_S100000x64_S1024x20x1_S1024x20x64_2_0_n_n_0_2_164.startIndexMap from List.mem_singleton.mpr rfl)]
    have hsi : ∀ p, GatherDims.siIdx gather_S100000x64_S1024x20x1_S1024x20x64_2_0_n_n_0_2_164 (ix3 r c e) ⟨0, p⟩ = ix3 r c 0 := by
      intro p; funext b; refine Fin.ext ?_
      match b with
      | ⟨0, _⟩ => rfl
      | ⟨1, _⟩ => rfl
      | ⟨2, _⟩ => rfl
    exact congrArg (fun i => min (idx i).toInt.toNat 99999) (hsi _)
  | ⟨1, _⟩ =>
    unfold GatherDims.start
    rw [dif_neg (show (⟨1, by decide⟩ : Fin S100000x64.rank) ∉ gather_S100000x64_S1024x20x1_S1024x20x64_2_0_n_n_0_2_164.startIndexMap from fun h => absurd (List.mem_singleton.mp h) (by decide))]
    refine (congrArg (0 + 0 + ·) (?_ : _ = e.val)).trans (Nat.zero_add _)
    unfold GatherDims.offCoord
    rw [dif_pos (show (⟨1, by decide⟩ : Fin S100000x64.rank) ∈ gather_S100000x64_S1024x20x1_S1024x20x64_2_0_n_n_0_2_164.sKept from (GatherDims.mem_sKept _ _).mpr ⟨fun h => absurd (List.mem_singleton.mp h) (by decide), List.not_mem_nil⟩)]
    rfl

/-- A word below the table's size is not below zero. -/
theorem wrapped_eq (hA : ∀ j, (a0 j).toNat < 100000) : wrapped a0 = a0 := by
  funext j
  show Scalar.select (IntOp.cmpi .slt (a0 j) 0#32) _ (a0 j) = a0 j
  have h := hA j
  rw [WordCmp.cmpi_slt_zero, decide_eq_false (by omega)]
  rfl

/-- The start words are the index words. -/
theorem starts_at (hA : ∀ j, (a0 j).toNat < 100000) (r : Fin 1024) (c : Fin 20) (z : Fin 1) : starts a0 (ix3 r c z) = a0 (ix2 r c) := by
  unfold starts
  rw [wrapped_eq a0 hA]
  pointwise

/-- Every word names a row. -/
theorem named_eq (hA : ∀ j, (a0 j).toNat < 100000) (j : S1024x20.Idx) : named a0 j = 1#1 := by
  refine Host.reduce_andi_one _ _ _ _ j rfl fun i => ?_
  idx_vars i
  show IntOp.andi (IntOp.cmpi .sge (starts a0 _) 0#32) (IntOp.cmpi .sle (starts a0 _) 99999#32) = 1#1
  rw [starts_at a0 hA]
  have h := hA (ix2 i0 i1)
  rw [WordCmp.cmpi_sge_zero, WordCmp.cmpi_sle_of_lt (by omega) (by decide), decide_eq_true (by omega), decide_eq_true (by simp; omega)]
  rfl

/-- A lane of the context is the named row's. -/
theorem context_at (hA : ∀ j, (a0 j).toNat < 100000) (r : Fin 1024) (c : Fin 20) (e : Fin 64) :
    context a0 a1 (ix2 r ⟨c.val * 64 + e.val, by omega⟩) = a1 (ix2 (Spec.row a0 r c) e) := by
  pointwise [context]
  rw [named_eq a0 hA]
  refine (gather_at a1 (starts a0) r c e).trans ?_
  have h := hA (ix2 r c)
  refine congrArg (fun q => a1 (ix2 q e)) (Fin.ext ?_)
  show min (starts a0 (ix3 r c 0)).toInt.toNat 99999 = (a0 (ix2 r c)).toNat % 100000
  rw [starts_at a0 hA, WordCmp.toInt_eq_toNat_of_lt_half (by omega), Int.toNat_natCast]
  omega

/-- The hidden layer is the classifier's. -/
theorem hidden_at (hA : ∀ j, (a0 j).toNat < 100000) (r : Fin 1024) (k : Fin 128) :
    hiddenT a0 a1 a2 a3 (ix2 r k) = Spec.hidden a0 a1 a2 a3 r k := by
  have e : hiddenT a0 a1 a2 a3 (ix2 r k) = max ((∑ q : Fin 1280, context a0 a1 (ix2 r q) * a2 (ix2 q k)) + a3 (ix1 k)) 0 := by
    pointwise [hiddenT]
  rw [e, Fin.sum_univ_tiles 20 64 rfl]
  unfold Spec.hidden
  refine congrArg (fun s : EReal => max (s + a3 (ix1 k)) 0) (Finset.sum_congr rfl fun c _ => Finset.sum_congr rfl fun e _ => ?_)
  exact congrArg (fun s : EReal => s * a2 (ix2 (Spec.lane c e) k)) (context_at a0 a1 hA r c e)

/-- The logits are the classifier's. -/
theorem logit_at (hA : ∀ j, (a0 j).toNat < 100000) (r : Fin 1024) (c : Fin 100000) :
    logitT a0 a1 a2 a3 a4 a5 (ix2 r c) = Spec.logit a0 a1 a2 a3 a4 a5 r c := by
  have e : logitT a0 a1 a2 a3 a4 a5 (ix2 r c) = max ((∑ k : Fin 128, hiddenT a0 a1 a2 a3 (ix2 r k) * a4 (ix2 k c)) + a5 (ix1 c)) 0 := by
    pointwise [logitT]
  rw [e]
  unfold Spec.logit
  exact congrArg (fun s : EReal => max (s + a5 (ix1 c)) 0) (Finset.sum_congr rfl fun k _ => by rw [hidden_at a0 a1 a2 a3 hA])

/-- The greatest number of each row of an array of any size. -/
theorem row_max {n k : ℕ} (z : (⟨2, ![n, k]⟩ : Shape).Idx → EReal) (init : S_.Idx → EReal) (h : (⟨2, ![n, k]⟩ : Shape).ReducesTo [1] ⟨1, ![n]⟩) (r : Fin n) :
    Host.reduce (FloatOps.maximumf (F := Ideal) (φ := .f32)) z init h h_S_ (ix1 r)
      = Finset.univ.fold max (init (Shape.Idx.first h_S_)) fun c : Fin k => z (ix2 r c) :=
  (Host.reduce_eq_fold (max : EReal → EReal → EReal) z init h h_S_ (ix1 r)).trans (h.fold_fiber_r2_a1 (ix1 r) max _ z)

/-- The greater of two arrays, element by element. -/
theorem max_at {s : Shape} (a b : FVec Ideal s .f32) (i : s.Idx) : maximumf a b i = max (a i) (b i) := rfl

/-- The pattern of `-∞`. -/
theorem inf_at (i : S_.Idx) : (constant (F := Ideal) S_ .f32 0xFF800000#32) i = (⊥ : EReal) := by
  show Ideal.ofBits FTy.f32 0xFF800000#32 = ⊥
  simp [Ideal.ofBits, Ideal.ieee]

/-- A row of `-∞`. -/
theorem infs_at (i : S1024.Idx) : broadcastInDim S1024 ![] bcast_S_S1024 (constant (F := Ideal) S_ .f32 0xFF800000#32) i = (⊥ : EReal) := by
  show Ideal.ofBits FTy.f32 0xFF800000#32 = ⊥
  simp [Ideal.ofBits, Ideal.ieee]

/-- The row's maximum is the greater of the two the program takes. -/
theorem top_step (z : FVec Ideal S1024x100000 .f32) (r : Fin 1024) :
    top z (ix1 r) = max (broadcastInDim S1024 ![] bcast_S_S1024 (constant (F := Ideal) S_ .f32 0xFF800000#32) (ix1 r))
      (Host.reduce FloatOps.maximumf z (constant S_ .f32 0xFF800000#32) reducesTo_S1024x100000_S1024_d1 h_S_ (ix1 r)) := by
  unfold top
  exact max_at _ _ _

/-- The second of those two, over the row's numbers. -/
theorem top_fold (z : FVec Ideal S1024x100000 .f32) (r : Fin 1024) :
    Host.reduce FloatOps.maximumf z (constant S_ .f32 0xFF800000#32) reducesTo_S1024x100000_S1024_d1 h_S_ (ix1 r)
      = Finset.univ.fold max ((constant (F := Ideal) S_ .f32 0xFF800000#32) (Shape.Idx.first h_S_)) fun k : Fin 100000 => z (ix2 r k) :=
  row_max z _ _ r

/-- A row's maximum. -/
theorem top_at (z : FVec Ideal S1024x100000 .f32) (r : Fin 1024) : top z (ix1 r) = max ⊥ (Finset.univ.fold max ⊥ fun k : Fin 100000 => z (ix2 r k)) := by
  rw [top_step, top_fold, infs_at, inf_at]

/-- The logarithm of the softmax at an element. -/
theorem logSoftmax_at (z : FVec Ideal S1024x100000 .f32) (r : Fin 1024) (c : Fin 100000) :
    logSoftmax z (ix2 r c) = (z (ix2 r c) - top z (ix1 r)) - Ideal.log (0 + ∑ k : Fin 100000, Ideal.exp (z (ix2 r k) - top z (ix1 r))) := by
  pointwise [logSoftmax, shifted]

/-- The reference's result, of indices that name rows and of finite arguments: the classifier's. -/
theorem result_eq (hA : ∀ j, (a0 j).toNat < 100000) (h1 : ∀ j, a1 j ≠ ⊤ ∧ a1 j ≠ ⊥) (h2 : ∀ j, a2 j ≠ ⊤ ∧ a2 j ≠ ⊥)
    (h3 : ∀ j, a3 j ≠ ⊤ ∧ a3 j ≠ ⊥) (h4 : ∀ j, a4 j ≠ ⊤ ∧ a4 j ≠ ⊥) (h5 : ∀ j, a5 j ≠ ⊤ ∧ a5 j ≠ ⊥) (r : Fin 1024) (c : Fin 100000) :
    logSoftmax (logitT a0 a1 a2 a3 a4 a5) (ix2 r c) = Spec.result a0 a1 a2 a3 a4 a5 r c := by
  rw [logSoftmax_at]
  exact Softmax.ref_eq (fun k : Fin 100000 => logitT a0 a1 a2 a3 a4 a5 (ix2 r k)) (fun k => (Spec.logit a0 a1 a2 a3 a4 a5 r k).toReal)
    (fun k => (logit_at a0 a1 a2 a3 a4 a5 hA r k).trans (Spec.coe_toReal (Spec.logit_real a0 a1 a2 a3 a4 a5 h1 h2 h3 h4 h5 r k)))
    _ (top_at _ r) c

end Cert.Proof.Ref

end
-- ==== Proof.Equal.lean ====
/-
  The two results are equal: from equal arguments, where every index names a row and the float arguments are finite, the
  idealized kernel and the reference both leave the classifier's result.
-/
module

public import proofs.«01_k».proof.Proof.Frames
public import proofs.«01_k».proof.Proof.IdHidden
public import proofs.«01_k».proof.Proof.RefValue

@[expose] public section

noncomputable section

namespace Cert.Proof

open Idealize.ShloMosaic

/-- Two arrays of 1024 rows and 100000 columns are equal when they are at every row and column. -/
theorem array_ext {α : Type} {f h : (⟨2, ![1024, 100000]⟩ : Shape).Idx → α} (e : ∀ (r : Fin 1024) (c : Fin 100000), f (ix2 r c) = h (ix2 r c)) : f = h := by
  funext j
  idx_vars j
  exact e _ _

/-- The classifier's result as an array. -/
def resultArray (m : (ℓ : Loc Cert.KernelIdeal.nD Cert.KernelIdeal.τ Cert.KernelIdeal.sig) → Buf (Elt Ideal) ℓ) (d : Dev Cert.KernelIdeal.nD) :
    (⟨2, ![1024, 100000]⟩ : Shape).Idx → EReal :=
  fun j => Spec.result (Id.A0 m d) (Id.A1 m d) (Id.A2 m d) (Id.A3 m d) (Id.A4 m d) (Id.A5 m d) (j 0) (j 1)

/-- The idealized kernel and the reference leave equal results of equal arguments. -/
theorem algebraic : algebraic_KernelIdeal_ReferenceIdeal_pre_in_range_finite := by
  intro m g m' g' hP hm
  have hp := fun d => Pre.in_range_finite (hP d)
  refine ⟨fun d => resultArray m d, ?_, ?_⟩
  · refine (θ_run (Cert.KernelIdeal.defs (F := Ideal)) _ _).mono (fun r h c => ?_) (Id.run_args m g fun d => (hp d).1)
    obtain ⟨⟨lse, hl⟩, hargs⟩ := h.1 c
    obtain ⟨_, h1, h2, h3, h4, h5⟩ := hp c
    exact ⟨array_ext fun i j => Id.result_eq m c h1 h2 h3 h4 h5 lse _ hl i j, hargs⟩
  · refine (θ_run (Cert.ReferenceIdeal.defs (F := Ideal)) _ _).mono (fun r h c => ⟨?_, (h c).2⟩) (Cert.ReferenceIdeal.Value.run m' g')
    obtain ⟨h0, h1, h2, h3, h4, h5⟩ := hp c
    obtain ⟨e0, e1, e2, e3, e4, e5⟩ := hm c
    rw [(h c).1, Ref.res_eq, e0, e1, e2, e3, e4, e5]
    exact array_ext fun i j => Ref.result_eq (Id.A0 m c) (Id.A1 m c) (Id.A2 m c) (Id.A3 m c) (Id.A4 m c) (Id.A5 m c) h0 h1 h2 h3 h4 h5 i j

end Cert.Proof

end
-- ==== Proof.lean ====
/-
  The proof of `Cert.Claim`: the frames of the kernel, of its idealization and of the reference, that the idealization
  preserves the kernel, and that the idealized kernel and the reference leave equal results.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_finite

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_in_range_finite.Gen.facts, frame_kernel, frame_ideal, frame_ideal_finite, frame_reference, frame_reference_finite,
    trivial, algebraic⟩

end Cert.Proof

end
